-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S24x128x256 : Shape := ⟨3, ![24, 128, 256]⟩
abbrev S50000x32 : Shape := ⟨2, ![50000, 32]⟩
abbrev S50000x256 : Shape := ⟨2, ![50000, 256]⟩
abbrev S50000 : Shape := ⟨1, ![50000]⟩
abbrev S24x128 : Shape := ⟨2, ![24, 128]⟩
abbrev S3072x256 : Shape := ⟨2, ![3072, 256]⟩
abbrev S1x50000 : Shape := ⟨2, ![1, 50000]⟩
abbrev S3072x50000 : Shape := ⟨2, ![3072, 50000]⟩
abbrev S512x32 : Shape := ⟨2, ![512, 32]⟩
abbrev S512x256 : Shape := ⟨2, ![512, 256]⟩
abbrev S1x512 : Shape := ⟨2, ![1, 512]⟩
abbrev S3072x512 : Shape := ⟨2, ![3072, 512]⟩
abbrev S3072x128 : Shape := ⟨2, ![3072, 128]⟩
abbrev S1x128 : Shape := ⟨2, ![1, 128]⟩
abbrev S128x128 : Shape := ⟨2, ![128, 128]⟩
abbrev S32x256 : Shape := ⟨2, ![32, 256]⟩
abbrev S1x256 : Shape := ⟨2, ![1, 256]⟩
abbrev S512x512 : Shape := ⟨2, ![512, 512]⟩
abbrev S512x128 : Shape := ⟨2, ![512, 128]⟩
abbrev S24x128x50000 : Shape := ⟨3, ![24, 128, 50000]⟩

abbrev nBuf : Space → Nat
  | .hbm => 11
  | .vmem => 13
  | .smem => 0
  | _ => 0

abbrev bufTy : (tb : Table) → Fin (tcTables nBuf tb) → BufTy
  | .hbm, ⟨0, _⟩ => ⟨S24x128x256, .bf16⟩
  | .hbm, ⟨1, _⟩ => ⟨S50000x32, .i8⟩
  | .hbm, ⟨2, _⟩ => ⟨S50000x256, .i8⟩
  | .hbm, ⟨3, _⟩ => ⟨S50000, .f32⟩
  | .hbm, ⟨4, _⟩ => ⟨S50000, .f32⟩
  | .hbm, ⟨5, _⟩ => ⟨S24x128, .f32⟩
  | .hbm, ⟨6, _⟩ => ⟨S3072x256, .bf16⟩
  | .hbm, ⟨7, _⟩ => ⟨S1x50000, .f32⟩
  | .hbm, ⟨8, _⟩ => ⟨S1x50000, .f32⟩
  | .hbm, ⟨9, _⟩ => ⟨S3072x50000, .f32⟩
  | .hbm, ⟨10, _⟩ => ⟨S24x128x50000, .f32⟩
  | .local _ .vmem, ⟨0, _⟩ => ⟨S3072x256, .bf16⟩
  | .local _ .vmem, ⟨1, _⟩ => ⟨S24x128, .f32⟩
  | .local _ .vmem, ⟨2, _⟩ => ⟨S512x32, .i8⟩
  | .local _ .vmem, ⟨3, _⟩ => ⟨S512x32, .i8⟩
  | .local _ .vmem, ⟨4, _⟩ => ⟨S512x256, .i8⟩
  | .local _ .vmem, ⟨5, _⟩ => ⟨S512x256, .i8⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S3072x512, .f32⟩
  | .local _ .vmem, ⟨11, _⟩ => ⟨S3072x512, .f32⟩
  | .local _ .vmem, ⟨12, _⟩ => ⟨S3072x128, .f32⟩
  | _, _ => ⟨S24x128x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![98], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S3072x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S24x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x32 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S3072x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S24x128x256 : Shape := ⟨3, ![24, 128, 256]⟩
abbrev S50000x32 : Shape := ⟨2, ![50000, 32]⟩
abbrev S50000x256 : Shape := ⟨2, ![50000, 256]⟩
abbrev S50000 : Shape := ⟨1, ![50000]⟩
abbrev S24x128 : Shape := ⟨2, ![24, 128]⟩
abbrev S8 : Shape := ⟨1, ![8]⟩
abbrev S50000x1x32 : Shape := ⟨3, ![50000, 1, 32]⟩
abbrev S1x8x1 : Shape := ⟨3, ![1, 8, 1]⟩
abbrev S50000x8x32 : Shape := ⟨3, ![50000, 8, 32]⟩
abbrev S_ : Shape := ⟨0, ![]⟩
abbrev S24x128x8x32 : Shape := ⟨4, ![24, 128, 8, 32]⟩
abbrev S24x128x50000 : Shape := ⟨3, ![24, 128, 50000]⟩
abbrev S1x1x50000 : Shape := ⟨3, ![1, 1, 50000]⟩
abbrev S24x128x1 : Shape := ⟨3, ![24, 128, 1]⟩

abbrev nBuf : Space → Nat
  | .hbm => 46
  | .vmem => 0
  | .smem => 0
  | _ => 0

abbrev bufTy : (tb : Table) → Fin (tcTables nBuf tb) → BufTy
  | .hbm, ⟨0, _⟩ => ⟨S24x128x256, .bf16⟩
  | .hbm, ⟨1, _⟩ => ⟨S50000x32, .i8⟩
  | .hbm, ⟨2, _⟩ => ⟨S50000x256, .i8⟩
  | .hbm, ⟨3, _⟩ => ⟨S50000, .f32⟩
  | .hbm, ⟨4, _⟩ => ⟨S50000, .f32⟩
  | .hbm, ⟨5, _⟩ => ⟨S24x128, .f32⟩
  | .hbm, ⟨6, _⟩ => ⟨S8, .i32⟩
  | .hbm, ⟨7, _⟩ => ⟨S50000x32, .i32⟩
  | .hbm, ⟨8, _⟩ => ⟨S50000x1x32, .i32⟩
  | .hbm, ⟨9, _⟩ => ⟨S1x8x1, .i32⟩
  | .hbm, ⟨10, _⟩ => ⟨S50000x8x32, .i32⟩
  | .hbm, ⟨11, _⟩ => ⟨S50000x8x32, .i32⟩
  | .hbm, ⟨12, _⟩ => ⟨S50000x8x32, .i32⟩
  | .hbm, ⟨13, _⟩ => ⟨S_, .i32⟩
  | .hbm, ⟨14, _⟩ => ⟨S50000x8x32, .i32⟩
  | .hbm, ⟨15, _⟩ => ⟨S50000x8x32, .i32⟩
  | .hbm, ⟨16, _⟩ => ⟨S50000x256, .i32⟩
  | .hbm, ⟨17, _⟩ => ⟨S50000x8x32, .i32⟩
  | .hbm, ⟨18, _⟩ => ⟨S_, .i32⟩
  | .hbm, ⟨19, _⟩ => ⟨S50000x8x32, .i32⟩
  | .hbm, ⟨20, _⟩ => ⟨S50000x8x32, .i32⟩
  | .hbm, ⟨21, _⟩ => ⟨S_, .i32⟩
  | .hbm, ⟨22, _⟩ => ⟨S50000x8x32, .i32⟩
  | .hbm, ⟨23, _⟩ => ⟨S50000x8x32, .i32⟩
  | .hbm, ⟨24, _⟩ => ⟨S50000x8x32, .i32⟩
  | .hbm, ⟨25, _⟩ => ⟨S_, .i32⟩
  | .hbm, ⟨26, _⟩ => ⟨S50000x8x32, .i32⟩
  | .hbm, ⟨27, _⟩ => ⟨S50000x8x32, .i32⟩
  | .hbm, ⟨28, _⟩ => ⟨S_, .i32⟩
  | .hbm, ⟨29, _⟩ => ⟨S50000x8x32, .i32⟩
  | .hbm, ⟨30, _⟩ => ⟨S50000x8x32, .i32⟩
  | .hbm, ⟨31, _⟩ => ⟨S50000x8x32, .bf16⟩
  | .hbm, ⟨32, _⟩ => ⟨S24x128x8x32, .bf16⟩
  | .hbm, ⟨33, _⟩ => ⟨S24x128x50000, .f32⟩
  | .hbm, ⟨34, _⟩ => ⟨S1x1x50000, .f32⟩
  | .hbm, ⟨35, _⟩ => ⟨S24x128x1, .f32⟩
  | .hbm, ⟨36, _⟩ => ⟨S24x128x50000, .f32⟩
  | .hbm, ⟨37, _⟩ => ⟨S24x128x50000, .f32⟩
  | .hbm, ⟨38, _⟩ => ⟨S24x128x50000, .f32⟩
  | .hbm, ⟨39, _⟩ => ⟨S_, .f32⟩
  | .hbm, ⟨40, _⟩ => ⟨S50000, .f32⟩
  | .hbm, ⟨41, _⟩ => ⟨S50000, .f32⟩
  | .hbm, ⟨42, _⟩ => ⟨S1x1x50000, .f32⟩
  | .hbm, ⟨43, _⟩ => ⟨S24x128x50000, .f32⟩
  | .hbm, ⟨44, _⟩ => ⟨S24x128x50000, .f32⟩
  | .hbm, ⟨45, _⟩ => ⟨S24x128x50000, .f32⟩
  | _, _ => ⟨S24x128x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_0 : Ref sig .tc := ⟨.hbm, 18, rfl⟩
abbrev main_v11 : Ref sig .tc := ⟨.hbm, 19, rfl⟩
abbrev main_v12 : Ref sig .tc := ⟨.hbm, 20, rfl⟩
abbrev main_c_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_2 : Ref sig .tc := ⟨.hbm, 25, rfl⟩
abbrev main_v16 : Ref sig .tc := ⟨.hbm, 26, rfl⟩
abbrev main_v17 : Ref sig .tc := ⟨.hbm, 27, rfl⟩
abbrev main_c_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩

abbrev nD : Nat := 1
abbrev τ : Topo := Topo.v7x

variable {F : FTy → Type} [FloatOps F]
-- ==== Proof.KFrame.lean ====
/-
  The frame of the printed kernel: it runs to its end without a fault, its arguments end as they were, and every counter
  ends at zero. Nothing is said of the values it computes, so every window is forgotten: the staging buffers and the
  scratch are handed to the body at some contents and handed back at some contents.
-/
module

public import proofs.«01_k».proof.Proof.Gen.Kernel.Frame
public import proofs.«01_k».proof.Proof.Gen.Kernel.Skeleton
public import Idealize.ShloMosaic.Lib.Pipeline.Frame
public import Idealize.ShloMosaic.Lib.Tactic

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- A memref held whole at some contents. -/
abbrev some_at (c : Dev nD) {sp : Space} {S : Shape} {e : EltTy} (M : Memref sig .tc sp S e) : sProp 𝕄 :=
  iprop(∃ d, owns (c : Thread nD τ) M fullShare d)

/-- The condition under which the body fills its scratch: the grid coordinate is zero. -/
abbrev cond0 (i : grid0.Coords) : Prop :=
  Scalar.cmpi .ne (Scalar.extui (Scalar.cmpi .eq (BitVec.ofNat 32 (i 0).val) 0#32) : BitVec 32) 0#32 = 1#1

set_option maxHeartbeats 8000000 in
/-- The body on whole memrefs: from every buffer at some contents to every buffer at some contents. -/
theorem kernelRun (c : Dev nD) (i : grid0.Coords)
    (arg1 : Memref sig .tc .vmem S3072x256 .bf16) (harg1 : arg1.IsWhole) (arg2 : Memref sig .tc .vmem S24x128 .f32) (harg2 : arg2.IsWhole)
    (arg3 : Memref sig .tc .vmem S512x32 .i8) (harg3 : arg3.IsWhole) (arg4 : Memref sig .tc .vmem S512x256 .i8) (harg4 : arg4.IsWhole)
    (arg5 : Memref sig .tc .vmem S1x512 .f32) (harg5 : arg5.IsWhole) (arg6 : Memref sig .tc .vmem S1x512 .f32) (harg6 : arg6.IsWhole)
    (arg7 : Memref sig .tc .vmem S3072x512 .f32) (harg7 : arg7.IsWhole) (arg8 : Memref sig .tc .vmem S3072x128 .f32) (harg8 : arg8.IsWhole)
    (K : PUnit → sProp 𝕄) :
    iprop(some_at c arg1 ∗ some_at c arg2 ∗ some_at c arg3 ∗ some_at c arg4 ∗ some_at c arg5 ∗ some_at c arg6 ∗ some_at c arg7 ∗ some_at c arg8
        ∗ (iprop(some_at c arg1 ∗ some_at c arg2 ∗ some_at c arg3 ∗ some_at c arg4 ∗ some_at c arg5 ∗ some_at c arg6 ∗ some_at c arg7 ∗ some_at c arg8)
            -∗ K ⟨⟩))
      ⊢ wp frame (wpE (defs₀ (F := F)) Variants.none c none) Set.univ
          (cc0__body i arg1 harg1 arg2 harg2 arg3 harg3 arg4 harg4 arg5 harg5 arg6 harg6 arg7 harg7 arg8 harg8) K := by
  by_cases hc : cond0 i
  all_goals
    simp only [cc0__body_eq_skeleton, k0_part1_eq_skeleton, k0_part2_eq_skeleton, k0_part3_eq_skeleton, k0_part4_eq_skeleton,
      k0_part5_eq_skeleton, k0_part6_eq_skeleton, k0_part7_eq_skeleton]
    unfold cc0__body_skel
    unfold some_at owns
    iintro ⟨⟨%d1, %f1, -, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, Hk⟩
    sl_exec (disch := exact hc)
    sl_step
    iapply Hk
    isplitl [H1]; · iexists _, _; isplitr; swap; · iexact H1
                    ipureintro; rfl
    isplitl [H2]; · iexists _, _; isplitr; swap; · iexact H2
                    ipureintro; rfl
    isplitl [H3]; · iexists _, _; isplitr; swap; · iexact H3
                    ipureintro; rfl
    isplitl [H4]; · iexists _, _; isplitr; swap; · iexact H4
                    ipureintro; rfl
    isplitl [H5]; · iexists _, _; isplitr; swap; · iexact H5
                    ipureintro; rfl
    isplitl [H6]; · iexists _, _; isplitr; swap; · iexact H6
                    ipureintro; rfl
    isplitl [H7]; · iexists _, _; isplitr; swap; · iexact H7
                    ipureintro; rfl
    iexists _, _; isplitr; swap; · iexact H8
    ipureintro; rfl

/-! ## The proof data and the body obligation -/

/-- Every window is forgotten. -/
def forgets : Fin 7 → Bool := fun _ => true

/-- The proof data: the arrays as the region finds them; what the body leaves in the staging buffers unnamed; the scratch at
    some contents; full shares; nothing owed. -/
def dats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by dsimp only [dats]

/-- The invariant conjunct by conjunct: the scratch at some contents and the generator register at some state. -/
theorem Phi_eq (c : Dev nD) :
    (Pipeline.ΦA spec0 c : sProp 𝕄) = iprop(some_at c (Memref.whole cc0_scratch0) ∗ (∃ r, prngReg c r)) := by
  unfold Pipeline.ΦA
  rw [scopedRest0_eq]; simp only [some_at, owns_whole]; try rfl

/-- What the body is called with and what it leaves at a point. -/
def bodyState (c : Dev nD) (t : Fin cfg0.N) (s : Fin (cfg0.N + 1)) : sProp 𝕄 :=
  iprop((dats m 0 c).Φ s ∗ (dats m 0 c).owesAt () s
    ∗ some_at c (st0_0 t) ∗ some_at c (st0_1 t) ∗ some_at c (st0_2 t) ∗ some_at c (st0_3 t) ∗ some_at c (st0_4 t) ∗ some_at c (st0_5 t) ∗ some_at c (st0_6 t))

/-- The body at a point. -/
theorem sound_body (c : Dev nD) (t : Fin cfg0.N) :
    bodyState m c t t.castSucc ⊢ wp frame (wpE (defs₀ (F := F)) Variants.none c none) Set.univ (bodyAt0 t) (fun _ => bodyState m c t t.succ) := by
  unfold bodyState bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, Phi_eq]
  iintro ⟨⟨HS, Hg⟩, HO, H0, H1, H2, H3, H4, H5, H6⟩
  iapply (kernelRun c (grid0.coords t) (st0_0 t) _ (st0_1 t) _ (st0_2 t) _ (st0_3 t) _ (st0_4 t) _ (st0_5 t) _ (st0_6 t) _ (Memref.whole cc0_scratch0) _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS]; · iexact HS
  iintro ⟨H0, H1, H2, H3, H4, H5, H6, HS⟩
  isplitl [HS Hg]
  · isplitl [HS]; · iexact HS
    iexact Hg
  isplitl [HO]; · iexact HO
  isplitl [H0]; · iexact H0
  isplitl [H1]; · iexact H1
  isplitl [H2]; · iexact H2
  isplitl [H3]; · iexact H3
  isplitl [H4]; · iexact H4
  isplitl [H5]; · iexact H5
  iexact H6

/-- The body table's row at a point is the body. -/
theorem defs₀_row (t : Fin cfg0.N) : defs₀ (F := F) .tc cfg0.body (cfg0.bodyArgs t (cfg0.slots t)) = bodyAt0 t := by
  unfold defs₀; rw [Defs.onTc_tc]

/-- The library's body obligation, every window forgotten. -/
theorem body_obligation (c : Dev nD) :
    Pipeline.BodyObligationLoose (dats (F := F) m 0 c) (defs₀ (F := F)) Variants.none () Set.univ forgets := fun t => by
  rw [bigSep_W0, bigSep_W0, defs₀_row]
  exact triple_restated (sound_body m c t) rfl .rfl fun _ => .rfl

/-! ## The launch -/

/-- The line after the region writes the result only. -/
theorem sfx_writes : ∀ ops ∈ ([hostOps1] : List (List (HloOp τ sig (Elt F)))), ∀ op ∈ ops, ∀ b : Ref sig .tc,
    Proc.devRef .tc b ∈ op.writes → b ∈ ({main_v4} : Finset (Ref sig .tc)) := by
  intro ops hops op hop b hb
  simp only [List.mem_cons, List.mem_nil_iff, or_false] at hops
  subst hops
  simp only [hostOps1, List.mem_cons, List.mem_nil_iff, or_false] at hop
  subst hop
  by_contra hne
  simp only [StableHlo.reshape_writes, Finset.mem_singleton] at hb hne
  exact StableHlo.devRef_ne_of_ne hne hb

set_option backward.isDefEq.respectTransparency.types false in
/-- Every fair run of the program ends, with the windows' arrays and the bypassing buffers as the frame post says and every counter
    at zero. -/
theorem run_main :
    θ_run defs (onTc (τ := τ) (main (F := F))) (s₀ m ρ)
      (fun r => Pipeline.RDat.FramePostR (cfgs 0) (fun c => (dats m 0 c).toRForget forgets) {main_v4} (V m) r ∧ r.2.sem = fun _ => 0) :=
  Pipeline.θ_run_frame_around_T_forget (Q' := _) cfgs (dats m) (0 : Fin 1) launch0 defs₀ Variants.none forgets {main_v4} m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hT := sfx_writes) (hmain := hmain m Variants.none) (hA := A_eq m) (hΦ := fun _ _ => rfl) (hQ' := fun _ h => h)

/-- The frame: the arguments end as they were and every counter ends at zero. -/
theorem frame :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨
      ((h.1 c).2 main_arg0 (by decide)).trans (V_main_arg0 m c),
      (h.1.arr_in c 2 rfl).trans ((A_eq m c 2).trans (V_main_arg1 m c)),
      (h.1.arr_in c 3 rfl).trans ((A_eq m c 3).trans (V_main_arg2 m c)),
      ((h.1 c).2 main_arg3 (by decide)).trans (V_main_arg3 m c),
      ((h.1 c).2 main_arg4 (by decide)).trans (V_main_arg4 m c),
      (h.1.arr_in c 1 rfl).trans ((A_eq m c 1).trans (V_main_arg5 m c))⟩, h.2⟩) (run_main m ρ)

end Cert.Kernel.Hand

end
-- ==== Proof.Body.lean ====
/-
  The body of the kernel on whole memrefs: from its six inputs at known contents it leaves the inputs as they were, the
  scratch at `s'` and the output at the six row blocks `outL … s'`. At the first grid point `s'` is `gcol x2`, the group
  offsets laid down the rows, whatever the scratch held; at the later points `s'` is what the scratch held.
-/
module

public import proofs.«01_k».proof.Proof.Gen.KernelIdeal.Frame
public import proofs.«01_k».proof.Proof.Gen.KernelIdeal.Skeleton
public import Idealize.ShloMosaic.Lib.Pipeline.Frame
public import Idealize.ShloMosaic.Lib.Pipeline.ValueKit
public import Idealize.ShloMosaic.Lib.Pipeline.ReadBack
public import Idealize.ShloMosaic.Lib.Pointwise
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [∀ e, Nonempty (Elt F e)]

local notation "𝕄" => MT nD τ sig Unit (Elt F) ℕ (UR sig nD τ) ℕ

/-- The condition under which the body fills its scratch: the grid coordinate is zero. -/
abbrev cond0 (i : grid0.Coords) : Prop :=
  Scalar.cmpi .ne (Scalar.extui (Scalar.cmpi .eq (BitVec.ofNat 32 (i 0).val) 0#32) : BitVec 32) 0#32 = 1#1

/-! ## The scratch: the group offsets, one row per key row -/

/-- The group offsets laid down the rows: row `r` holds offset `r % 128` of group row `r / 128`, at every lane. -/
def gcol (x2 : Vec F S24x128 .f32) : Vec F S3072x128 .f32 :=
  fun y => x2 (ix2 ⟨(y 0 : Nat) / 128, Nat.div_lt_of_lt_mul (show (y 0 : Nat) < 128 * 24 from (y 0).isLt)⟩
    ⟨(y 0 : Nat) % 128, Nat.mod_lt _ (by decide)⟩)

/-- One store of the first point: row `b` of the offsets, broadcast over 128 rows and transposed, is rows
    `128 b … 128 b + 127` of `gcol`. -/
theorem pay_eq_gcol (x2 : Vec F S24x128 .f32) (b : Nat) (h2 : ∀ a, (![b, 0] : Fin 2 → Nat) a + S1x128.size a ≤ S24x128.size a)
    (h8 : ∀ a, (![128 * b, 0] : Fin 2 → Nat) a + S128x128.size a ≤ S3072x128.size a) (x : S128x128.Idx) :
    k0_pay4 (View.ld x2 (Rect.unit (s := S24x128) ![b, 0] S1x128.size h2)) x
      = gcol x2 ((Rect.unit (s := S3072x128) ![128 * b, 0] S128x128.size h8).emb x) := by
  idx_vars x
  unfold k0_pay4 gcol
  pointwise
  have e : ((((Rect.unit (s := S3072x128) ![128 * b, 0] S128x128.size h8).emb (ix2 x0 x1)) 0 : Fin _) : Nat) = 128 * b + x0 := by
    rw [ValueKit.rect_emb_unit_val]; rfl
  refine congrArg x2 (congrArg₂ ix2 (Fin.ext ?_) (Fin.ext ?_))
  · show b = _ / 128
    rw [e]; omega
  · show (x0 : Nat) = _ % 128
    rw [e]; omega

/-! ## The output: six row blocks -/

/-- The weights the body decodes from its two code blocks. -/
def wgt (x3 : Vec F S512x32 .i8) (x4 : Vec F S512x256 .i8) : FVec F S512x256 .bf16 :=
  k0_pay31 (View.ld x4 (Rect.unit (s := S512x256) ![0, 0] S512x256.size inb_S512x256_S512x256_0_0))
    (k0_pay28 (View.ld x3 (Rect.unit (s := S512x32) ![0, 0] S512x32.size inb_S512x32_S512x32_0_0)))
    (iota .tc S1x256 32 [1] iota_S1x256_d1_w32) 32#32 k0_pay29 k0_pay30

/-- One row block of the output, from its row block of the keys and of the scratch. -/
def oblk (x3 : Vec F S512x32 .i8) (x4 : Vec F S512x256 .i8) (x5 x6 : Vec F S1x512 .f32) (xc : Vec F S512x256 .bf16) (sc : Vec F S512x128 .f32) :
    FVec F S512x512 .f32 :=
  k0_pay3 (wgt x3 x4) (k0_pay32 (View.ld x5 (Rect.unit (s := S1x512) ![0, 0] S1x512.size inb_S1x512_S1x512_0_0)))
    (k0_pay33 (View.ld x6 (Rect.unit (s := S1x512) ![0, 0] S1x512.size inb_S1x512_S1x512_0_0))) xc sc

/-- The output's six stores, last first, over the scratch contents `s`. -/
def outL (x1 : Vec F S3072x256 .bf16) (x3 : Vec F S512x32 .i8) (x4 : Vec F S512x256 .i8) (x5 x6 : Vec F S1x512 .f32) (s : Vec F S3072x128 .f32) :
    List (View.Piece (Elt F) S3072x512 .f32) :=
  [⟨Rect.unit (s := S3072x512) ![2560, 0] S512x512.size inb_S3072x512_S512x512_2560_0, oblk x3 x4 x5 x6
      (View.ld x1 (Rect.unit (s := S3072x256) ![2560, 0] S512x256.size inb_S3072x256_S512x256_2560_0))
      (View.ld s (Rect.unit (s := S3072x128) ![2560, 0] S512x128.size inb_S3072x128_S512x128_2560_0))⟩,
   ⟨Rect.unit (s := S3072x512) ![2048, 0] S512x512.size inb_S3072x512_S512x512_2048_0, oblk x3 x4 x5 x6
      (View.ld x1 (Rect.unit (s := S3072x256) ![2048, 0] S512x256.size inb_S3072x256_S512x256_2048_0))
      (View.ld s (Rect.unit (s := S3072x128) ![2048, 0] S512x128.size inb_S3072x128_S512x128_2048_0))⟩,
   ⟨Rect.unit (s := S3072x512) ![1536, 0] S512x512.size inb_S3072x512_S512x512_1536_0, oblk x3 x4 x5 x6
      (View.ld x1 (Rect.unit (s := S3072x256) ![1536, 0] S512x256.size inb_S3072x256_S512x256_1536_0))
      (View.ld s (Rect.unit (s := S3072x128) ![1536, 0] S512x128.size inb_S3072x128_S512x128_1536_0))⟩,
   ⟨Rect.unit (s := S3072x512) ![1024, 0] S512x512.size inb_S3072x512_S512x512_1024_0, oblk x3 x4 x5 x6
      (View.ld x1 (Rect.unit (s := S3072x256) ![1024, 0] S512x256.size inb_S3072x256_S512x256_1024_0))
      (View.ld s (Rect.unit (s := S3072x128) ![1024, 0] S512x128.size inb_S3072x128_S512x128_1024_0))⟩,
   ⟨Rect.unit (s := S3072x512) ![512, 0] S512x512.size inb_S3072x512_S512x512_512_0, oblk x3 x4 x5 x6
      (View.ld x1 (Rect.unit (s := S3072x256) ![512, 0] S512x256.size inb_S3072x256_S512x256_512_0))
      (View.ld s (Rect.unit (s := S3072x128) ![512, 0] S512x128.size inb_S3072x128_S512x128_512_0))⟩,
   ⟨Rect.unit (s := S3072x512) ![0, 0] S512x512.size inb_S3072x512_S512x512_0_0, oblk x3 x4 x5 x6
      (View.ld x1 (Rect.unit (s := S3072x256) ![0, 0] S512x256.size inb_S3072x256_S512x256_0_0))
      (View.ld s (Rect.unit (s := S3072x128) ![0, 0] S512x128.size inb_S3072x128_S512x128_0_0))⟩]

/-- Six row blocks fill the output, whatever they hold. -/
theorem outL_cover (p0 p1 p2 p3 p4 p5 : Vec F S512x512 .f32) (y : S3072x512.Idx) :
    ∃ pc ∈ ([⟨Rect.unit (s := S3072x512) ![2560, 0] S512x512.size inb_S3072x512_S512x512_2560_0, p0⟩,
        ⟨Rect.unit (s := S3072x512) ![2048, 0] S512x512.size inb_S3072x512_S512x512_2048_0, p1⟩,
        ⟨Rect.unit (s := S3072x512) ![1536, 0] S512x512.size inb_S3072x512_S512x512_1536_0, p2⟩,
        ⟨Rect.unit (s := S3072x512) ![1024, 0] S512x512.size inb_S3072x512_S512x512_1024_0, p3⟩,
        ⟨Rect.unit (s := S3072x512) ![512, 0] S512x512.size inb_S3072x512_S512x512_512_0, p4⟩,
        ⟨Rect.unit (s := S3072x512) ![0, 0] S512x512.size inb_S3072x512_S512x512_0_0, p5⟩] : List (View.Piece (Elt F) S3072x512 .f32)), y ∈ pc.1.set :=
  View.cover_of_tiled (Val := Elt F) (e := .f32) [⟨Rect.unit (s := S3072x512) ![2560, 0] S512x512.size inb_S3072x512_S512x512_2560_0, p0⟩,
        ⟨Rect.unit (s := S3072x512) ![2048, 0] S512x512.size inb_S3072x512_S512x512_2048_0, p1⟩,
        ⟨Rect.unit (s := S3072x512) ![1536, 0] S512x512.size inb_S3072x512_S512x512_1536_0, p2⟩,
        ⟨Rect.unit (s := S3072x512) ![1024, 0] S512x512.size inb_S3072x512_S512x512_1024_0, p3⟩,
        ⟨Rect.unit (s := S3072x512) ![512, 0] S512x512.size inb_S3072x512_S512x512_512_0, p4⟩,
        ⟨Rect.unit (s := S3072x512) ![0, 0] S512x512.size inb_S3072x512_S512x512_0_0, p5⟩] S512x512.size (by rfl) y

/-- What the output's buffer holds after the body. -/
def outV (x1 : Vec F S3072x256 .bf16) (x3 : Vec F S512x32 .i8) (x4 : Vec F S512x256 .i8) (x5 x6 : Vec F S1x512 .f32) (s : Vec F S3072x128 .f32) :
    Vec F S3072x512 .f32 := View.canon (outL x1 x3 x4 x5 x6 s)

/-! ## The first point -/

/-- The scratch's 24 stores at the first point, last first. -/
def gcolL (x2 : Vec F S24x128 .f32) : List (View.Piece (Elt F) S3072x128 .f32) :=
  [⟨Rect.unit (s := S3072x128) ![2944, 0] S128x128.size inb_S3072x128_S128x128_2944_0, k0_pay27 (View.ld x2 (Rect.unit (s := S24x128) ![23, 0] S1x128.size inb_S24x128_S1x128_23_0))⟩,
   ⟨Rect.unit (s := S3072x128) ![2816, 0] S128x128.size inb_S3072x128_S128x128_2816_0, k0_pay26 (View.ld x2 (Rect.unit (s := S24x128) ![22, 0] S1x128.size inb_S24x128_S1x128_22_0))⟩,
   ⟨Rect.unit (s := S3072x128) ![2688, 0] S128x128.size inb_S3072x128_S128x128_2688_0, k0_pay25 (View.ld x2 (Rect.unit (s := S24x128) ![21, 0] S1x128.size inb_S24x128_S1x128_21_0))⟩,
   ⟨Rect.unit (s := S3072x128) ![2560, 0] S128x128.size inb_S3072x128_S128x128_2560_0, k0_pay24 (View.ld x2 (Rect.unit (s := S24x128) ![20, 0] S1x128.size inb_S24x128_S1x128_20_0))⟩,
   ⟨Rect.unit (s := S3072x128) ![2432, 0] S128x128.size inb_S3072x128_S128x128_2432_0, k0_pay23 (View.ld x2 (Rect.unit (s := S24x128) ![19, 0] S1x128.size inb_S24x128_S1x128_19_0))⟩,
   ⟨Rect.unit (s := S3072x128) ![2304, 0] S128x128.size inb_S3072x128_S128x128_2304_0, k0_pay22 (View.ld x2 (Rect.unit (s := S24x128) ![18, 0] S1x128.size inb_S24x128_S1x128_18_0))⟩,
   ⟨Rect.unit (s := S3072x128) ![2176, 0] S128x128.size inb_S3072x128_S128x128_2176_0, k0_pay21 (View.ld x2 (Rect.unit (s := S24x128) ![17, 0] S1x128.size inb_S24x128_S1x128_17_0))⟩,
   ⟨Rect.unit (s := S3072x128) ![2048, 0] S128x128.size inb_S3072x128_S128x128_2048_0, k0_pay20 (View.ld x2 (Rect.unit (s := S24x128) ![16, 0] S1x128.size inb_S24x128_S1x128_16_0))⟩,
   ⟨Rect.unit (s := S3072x128) ![1920, 0] S128x128.size inb_S3072x128_S128x128_1920_0, k0_pay19 (View.ld x2 (Rect.unit (s := S24x128) ![15, 0] S1x128.size inb_S24x128_S1x128_15_0))⟩,
   ⟨Rect.unit (s := S3072x128) ![1792, 0] S128x128.size inb_S3072x128_S128x128_1792_0, k0_pay18 (View.ld x2 (Rect.unit (s := S24x128) ![14, 0] S1x128.size inb_S24x128_S1x128_14_0))⟩,
   ⟨Rect.unit (s := S3072x128) ![1664, 0] S128x128.size inb_S3072x128_S128x128_1664_0, k0_pay17 (View.ld x2 (Rect.unit (s := S24x128) ![13, 0] S1x128.size inb_S24x128_S1x128_13_0))⟩,
   ⟨Rect.unit (s := S3072x128) ![1536, 0] S128x128.size inb_S3072x128_S128x128_1536_0, k0_pay16 (View.ld x2 (Rect.unit (s := S24x128) ![12, 0] S1x128.size inb_S24x128_S1x128_12_0))⟩,
   ⟨Rect.unit (s := S3072x128) ![1408, 0] S128x128.size inb_S3072x128_S128x128_1408_0, k0_pay15 (View.ld x2 (Rect.unit (s := S24x128) ![11, 0] S1x128.size inb_S24x128_S1x128_11_0))⟩,
   ⟨Rect.unit (s := S3072x128) ![1280, 0] S128x128.size inb_S3072x128_S128x128_1280_0, k0_pay14 (View.ld x2 (Rect.unit (s := S24x128) ![10, 0] S1x128.size inb_S24x128_S1x128_10_0))⟩,
   ⟨Rect.unit (s := S3072x128) ![1152, 0] S128x128.size inb_S3072x128_S128x128_1152_0, k0_pay13 (View.ld x2 (Rect.unit (s := S24x128) ![9, 0] S1x128.size inb_S24x128_S1x128_9_0))⟩,
   ⟨Rect.unit (s := S3072x128) ![1024, 0] S128x128.size inb_S3072x128_S128x128_1024_0, k0_pay12 (View.ld x2 (Rect.unit (s := S24x128) ![8, 0] S1x128.size inb_S24x128_S1x128_8_0))⟩,
   ⟨Rect.unit (s := S3072x128) ![896, 0] S128x128.size inb_S3072x128_S128x128_896_0, k0_pay11 (View.ld x2 (Rect.unit (s := S24x128) ![7, 0] S1x128.size inb_S24x128_S1x128_7_0))⟩,
   ⟨Rect.unit (s := S3072x128) ![768, 0] S128x128.size inb_S3072x128_S128x128_768_0, k0_pay10 (View.ld x2 (Rect.unit (s := S24x128) ![6, 0] S1x128.size inb_S24x128_S1x128_6_0))⟩,
   ⟨Rect.unit (s := S3072x128) ![640, 0] S128x128.size inb_S3072x128_S128x128_640_0, k0_pay9 (View.ld x2 (Rect.unit (s := S24x128) ![5, 0] S1x128.size inb_S24x128_S1x128_5_0))⟩,
   ⟨Rect.unit (s := S3072x128) ![512, 0] S128x128.size inb_S3072x128_S128x128_512_0, k0_pay8 (View.ld x2 (Rect.unit (s := S24x128) ![4, 0] S1x128.size inb_S24x128_S1x128_4_0))⟩,
   ⟨Rect.unit (s := S3072x128) ![384, 0] S128x128.size inb_S3072x128_S128x128_384_0, k0_pay7 (View.ld x2 (Rect.unit (s := S24x128) ![3, 0] S1x128.size inb_S24x128_S1x128_3_0))⟩,
   ⟨Rect.unit (s := S3072x128) ![256, 0] S128x128.size inb_S3072x128_S128x128_256_0, k0_pay6 (View.ld x2 (Rect.unit (s := S24x128) ![2, 0] S1x128.size inb_S24x128_S1x128_2_0))⟩,
   ⟨Rect.unit (s := S3072x128) ![128, 0] S128x128.size inb_S3072x128_S128x128_128_0, k0_pay5 (View.ld x2 (Rect.unit (s := S24x128) ![1, 0] S1x128.size inb_S24x128_S1x128_1_0))⟩,
   ⟨Rect.unit (s := S3072x128) ![0, 0] S128x128.size inb_S3072x128_S128x128_0_0, k0_pay4 (View.ld x2 (Rect.unit (s := S24x128) ![0, 0] S1x128.size inb_S24x128_S1x128_0_0))⟩]

/-- They fill the scratch. -/
theorem gcolL_cover (x2 : Vec F S24x128 .f32) (y : S3072x128.Idx) : ∃ pc ∈ gcolL x2, y ∈ pc.1.set :=
  View.cover_of_tiled (gcolL x2) S128x128.size (by rfl) y

/-- Each is a block of `gcol`, so together they leave `gcol`. -/
theorem gcolL_canon (x2 : Vec F S24x128 .f32) : View.canon (gcolL x2) = gcol x2 :=
  funext fun y => (congrFun (congrArg View.canon (List.append_nil _).symm) y).trans
    (View.canon_append_of_piecesOf (gcol x2) [] (gcolL x2) ⟨pay_eq_gcol x2 23 inb_S24x128_S1x128_23_0 inb_S3072x128_S128x128_2944_0, pay_eq_gcol x2 22 inb_S24x128_S1x128_22_0 inb_S3072x128_S128x128_2816_0, pay_eq_gcol x2 21 inb_S24x128_S1x128_21_0 inb_S3072x128_S128x128_2688_0, pay_eq_gcol x2 20 inb_S24x128_S1x128_20_0 inb_S3072x128_S128x128_2560_0, pay_eq_gcol x2 19 inb_S24x128_S1x128_19_0 inb_S3072x128_S128x128_2432_0, pay_eq_gcol x2 18 inb_S24x128_S1x128_18_0 inb_S3072x128_S128x128_2304_0, pay_eq_gcol x2 17 inb_S24x128_S1x128_17_0 inb_S3072x128_S128x128_2176_0, pay_eq_gcol x2 16 inb_S24x128_S1x128_16_0 inb_S3072x128_S128x128_2048_0, pay_eq_gcol x2 15 inb_S24x128_S1x128_15_0 inb_S3072x128_S128x128_1920_0, pay_eq_gcol x2 14 inb_S24x128_S1x128_14_0 inb_S3072x128_S128x128_1792_0, pay_eq_gcol x2 13 inb_S24x128_S1x128_13_0 inb_S3072x128_S128x128_1664_0, pay_eq_gcol x2 12 inb_S24x128_S1x128_12_0 inb_S3072x128_S128x128_1536_0, pay_eq_gcol x2 11 inb_S24x128_S1x128_11_0 inb_S3072x128_S128x128_1408_0, pay_eq_gcol x2 10 inb_S24x128_S1x128_10_0 inb_S3072x128_S128x128_1280_0, pay_eq_gcol x2 9 inb_S24x128_S1x128_9_0 inb_S3072x128_S128x128_1152_0, pay_eq_gcol x2 8 inb_S24x128_S1x128_8_0 inb_S3072x128_S128x128_1024_0, pay_eq_gcol x2 7 inb_S24x128_S1x128_7_0 inb_S3072x128_S128x128_896_0, pay_eq_gcol x2 6 inb_S24x128_S1x128_6_0 inb_S3072x128_S128x128_768_0, pay_eq_gcol x2 5 inb_S24x128_S1x128_5_0 inb_S3072x128_S128x128_640_0, pay_eq_gcol x2 4 inb_S24x128_S1x128_4_0 inb_S3072x128_S128x128_512_0, pay_eq_gcol x2 3 inb_S24x128_S1x128_3_0 inb_S3072x128_S128x128_384_0, pay_eq_gcol x2 2 inb_S24x128_S1x128_2_0 inb_S3072x128_S128x128_256_0, pay_eq_gcol x2 1 inb_S24x128_S1x128_1_0 inb_S3072x128_S128x128_128_0, pay_eq_gcol x2 0 inb_S24x128_S1x128_0_0 inb_S3072x128_S128x128_0_0, trivial⟩ y (gcolL_cover x2 y))

/-- The body at the first grid point: the scratch is filled with the group offsets, then the output's row blocks computed over it. -/
theorem run_first (c : Dev nD) (i : grid0.Coords) (hc : cond0 i)
    (arg1 : Memref sig .tc .vmem S3072x256 .bf16) (harg1 : arg1.IsWhole) (arg2 : Memref sig .tc .vmem S24x128 .f32) (harg2 : arg2.IsWhole)
    (arg3 : Memref sig .tc .vmem S512x32 .i8) (harg3 : arg3.IsWhole) (arg4 : Memref sig .tc .vmem S512x256 .i8) (harg4 : arg4.IsWhole)
    (arg5 : Memref sig .tc .vmem S1x512 .f32) (harg5 : arg5.IsWhole) (arg6 : Memref sig .tc .vmem S1x512 .f32) (harg6 : arg6.IsWhole)
    (arg7 : Memref sig .tc .vmem S3072x512 .f32) (harg7 : arg7.IsWhole) (arg8 : Memref sig .tc .vmem S3072x128 .f32) (harg8 : arg8.IsWhole)
    (x1 : Vec F S3072x256 .bf16) (x2 : Vec F S24x128 .f32) (x3 : Vec F S512x32 .i8) (x4 : Vec F S512x256 .i8) (x5 x6 : Vec F S1x512 .f32)
    (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5 ∗ owns (c : Thread nD τ) arg6 fullShare x6
        ∗ (∃ d, owns (c : Thread nD τ) arg7 fullShare d) ∗ (∃ d, owns (c : Thread nD τ) arg8 fullShare d)
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5 ∗ owns (c : Thread nD τ) arg6 fullShare x6
            ∗ owns (c : Thread nD τ) arg7 fullShare (outV x1 x3 x4 x5 x6 (gcol x2)) ∗ owns (c : Thread nD τ) arg8 fullShare (gcol x2)) -∗ K ⟨⟩))
      ⊢ wp frame (wpE (defs₀ (F := F)) Variants.none c none) Set.univ
          (cc0__body i arg1 harg1 arg2 harg2 arg3 harg3 arg4 harg4 arg5 harg5 arg6 harg6 arg7 harg7 arg8 harg8) K := by
  simp only [cc0__body_eq_skeleton]
  unfold cc0__body_skel
  simp only [k0_part1_eq_skeleton, k0_part2_eq_skeleton, k0_part3_eq_skeleton, k0_part4_eq_skeleton,
      k0_part5_eq_skeleton, k0_part6_eq_skeleton, k0_part7_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf1 hf2 hf3 hf4 hf5 hf6
  sl_exec (disch := exact hc)
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  have hS : arg8.view.readCov (run_first.sl.H8_24 c arg2 f2) = fun B : LoadRect S3072x128 => fun j => gcol (arg2.view.read (Elt F) f2) (B.idx j) := by
    funext B
    rw [View.readCov_eq_canon', ← gcolL_canon]; rfl
  isplitl [H7]
  · iexists _; isplitr; swap; · iexact H7
    ipureintro
    refine (View.read_writes_eq_canon _ _ _ (outL_cover _ _ _ _ _ _)).trans ?_
    delta run_first.sl.r_7 run_first.sl.v83 run_first.sl.v94 run_first.sl.v105 run_first.sl.v116 run_first.sl.v127 run_first.sl.v138
    rw [hS]
    rfl
  iexists _; isplitr; swap; · iexact H8
  ipureintro
  rw [← gcolL_canon]
  exact View.read_writes_eq_canon _ _ _ (gcolL_cover (arg2.view.read (Elt F) f2))

/-! ## The later points -/

/-- The body at a later grid point: the output's row blocks computed over the scratch as found. -/
theorem run_next (c : Dev nD) (i : grid0.Coords) (hc : ¬ cond0 i)
    (arg1 : Memref sig .tc .vmem S3072x256 .bf16) (harg1 : arg1.IsWhole) (arg2 : Memref sig .tc .vmem S24x128 .f32) (harg2 : arg2.IsWhole)
    (arg3 : Memref sig .tc .vmem S512x32 .i8) (harg3 : arg3.IsWhole) (arg4 : Memref sig .tc .vmem S512x256 .i8) (harg4 : arg4.IsWhole)
    (arg5 : Memref sig .tc .vmem S1x512 .f32) (harg5 : arg5.IsWhole) (arg6 : Memref sig .tc .vmem S1x512 .f32) (harg6 : arg6.IsWhole)
    (arg7 : Memref sig .tc .vmem S3072x512 .f32) (harg7 : arg7.IsWhole) (arg8 : Memref sig .tc .vmem S3072x128 .f32) (harg8 : arg8.IsWhole)
    (x1 : Vec F S3072x256 .bf16) (x2 : Vec F S24x128 .f32) (x3 : Vec F S512x32 .i8) (x4 : Vec F S512x256 .i8) (x5 x6 : Vec F S1x512 .f32) (s : Vec F S3072x128 .f32)
    (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5 ∗ owns (c : Thread nD τ) arg6 fullShare x6
        ∗ (∃ d, owns (c : Thread nD τ) arg7 fullShare d) ∗ owns (c : Thread nD τ) arg8 fullShare s
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5 ∗ owns (c : Thread nD τ) arg6 fullShare x6
            ∗ owns (c : Thread nD τ) arg7 fullShare (outV x1 x3 x4 x5 x6 s) ∗ owns (c : Thread nD τ) arg8 fullShare s) -∗ K ⟨⟩))
      ⊢ wp frame (wpE (defs₀ (F := F)) Variants.none c none) Set.univ
          (cc0__body i arg1 harg1 arg2 harg2 arg3 harg3 arg4 harg4 arg5 harg5 arg6 harg6 arg7 harg7 arg8 harg8) K := by
  simp only [cc0__body_eq_skeleton]
  unfold cc0__body_skel
  simp only [k0_part1_eq_skeleton, k0_part2_eq_skeleton, k0_part3_eq_skeleton, k0_part4_eq_skeleton,
      k0_part5_eq_skeleton, k0_part6_eq_skeleton, k0_part7_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, Hk⟩
  subst hf1 hf2 hf3 hf4 hf5 hf6 hf8
  sl_exec (disch := exact hc)
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]
  · iexists _; isplitr; swap; · iexact H7
    ipureintro
    exact (View.read_writes_eq_canon _ _ _ (outL_cover _ _ _ _ _ _)).trans rfl
  iexists f8; isplitr; · ipureintro; rfl
  iexact H8

end Cert.KernelIdeal.Hand

end
-- ==== Proof.Code.lean ====
/-
  The five-bit code of one weight, and the two ways the sign bit is taken out of its byte.
-/
module

public import proofs.«01_k».proof.Proof.Gen.KernelIdeal
public import Idealize.ShloMosaic.Lib.Pointwise

@[expose] public section

set_option maxRecDepth 16384

noncomputable section

namespace Cert.Code

open Idealize.ShloMosaic

/-- The weight's integer, as the reference states it: bit `k` of the sign byte above the four low bits of the other
    byte, doubled, less 31. -/
def code (s e : BitVec 8) (k : BitVec 32) : BitVec 32 :=
  IntOp.subi (IntOp.muli 2#32 (IntOp.addi (IntOp.shli .host (IntOp.andi (IntOp.shrsi .host (BitVec.setWidth 32 s) k) 1#32) 4#32)
    (IntOp.andi (BitVec.setWidth 32 e) 15#32))) 31#32

/-- The kernel's form of the same integer: the sign byte tested at one bit, 1 or −31 added to the doubled low bits. -/
def codeK (s e : BitVec 8) (k : BitVec 32) : BitVec 32 :=
  IntOp.addi (IntOp.muli 2#32 (IntOp.andi (BitVec.setWidth 32 e) 15#32))
    (Scalar.select (IntOp.cmpi .ne (IntOp.andi (BitVec.setWidth 32 s) (IntOp.shli .vector 1#32 k)) 0#32) 1#32 4294967265#32)

/-- Bit `k` of a byte, shifted down: 1 where the byte meets `1 << k`, else 0. -/
theorem bit_eq : ∀ (s : Fin 256) (k : Fin 8),
    IntOp.andi (IntOp.shrsi .host (BitVec.setWidth 32 (BitVec.ofFin s : BitVec 8)) (BitVec.ofNat 32 k)) 1#32
      = Scalar.select (IntOp.cmpi .ne (IntOp.andi (BitVec.setWidth 32 (BitVec.ofFin s : BitVec 8)) (IntOp.shli .vector 1#32 (BitVec.ofNat 32 k))) 0#32) 1#32 0#32 := by
  decide +kernel

/-- Sixteen more in the code is thirty-two more in the weight. -/
theorem low_eq : ∀ (e : Fin 256) (c : Fin 2),
    IntOp.addi (IntOp.muli 2#32 (IntOp.andi (BitVec.setWidth 32 (BitVec.ofFin e : BitVec 8)) 15#32)) (Scalar.select (BitVec.ofFin c : BitVec 1) 1#32 4294967265#32)
      = IntOp.subi (IntOp.muli 2#32 (IntOp.addi (IntOp.shli .host (Scalar.select (BitVec.ofFin c : BitVec 1) 1#32 0#32) 4#32)
          (IntOp.andi (BitVec.setWidth 32 (BitVec.ofFin e : BitVec 8)) 15#32))) 31#32 := by
  decide +kernel

/-- The two forms agree at every byte pair and every one of the eight bits. -/
theorem codeK_eq (s e : BitVec 8) (k : Fin 8) : codeK s e (BitVec.ofNat 32 k) = code s e (BitVec.ofNat 32 k) := by
  have h1 := bit_eq s.toFin k
  have h2 := low_eq e.toFin (IntOp.cmpi .ne (IntOp.andi (BitVec.setWidth 32 s) (IntOp.shli .vector 1#32 (BitVec.ofNat 32 k))) 0#32).toFin
  unfold codeK code
  change IntOp.andi (IntOp.shrsi .host (BitVec.setWidth 32 s) _) _ = _ at h1
  rw [h1]
  exact h2

/-- The kernel's column residue, by the vector remainder and its sign fix-up, is the residue modulo 32. -/
theorem mod_eq : ∀ d : Fin 256,
    (Scalar.select
      (IntOp.andi
        (IntOp.xori
          (IntOp.cmpi CmpIPredicate.slt
            (IntOp.remsi ArithUnit.vector (BitVec.ofNat 32 d)
              (Scalar.select (Scalar.cmpi CmpIPredicate.eq 32#32 0#32) 1#32 32#32))
            0#32)
          (Scalar.cmpi CmpIPredicate.slt
            (Scalar.select (Scalar.cmpi CmpIPredicate.eq 32#32 0#32) 1#32 32#32) 0#32))
        (IntOp.cmpi CmpIPredicate.ne
          (IntOp.remsi ArithUnit.vector (BitVec.ofNat 32 d)
            (Scalar.select (Scalar.cmpi CmpIPredicate.eq 32#32 0#32) 1#32 32#32))
          0#32))
      (IntOp.addi
        (IntOp.remsi ArithUnit.vector (BitVec.ofNat 32 d)
          (Scalar.select (Scalar.cmpi CmpIPredicate.eq 32#32 0#32) 1#32 32#32))
        (Scalar.select (Scalar.cmpi CmpIPredicate.eq 32#32 0#32) 1#32 32#32))
      (IntOp.remsi ArithUnit.vector (BitVec.ofNat 32 d)
        (Scalar.select (Scalar.cmpi CmpIPredicate.eq 32#32 0#32) 1#32 32#32)))
    = BitVec.ofNat 32 (d.val % 32) := by
  decide +kernel

/-- The kernel's column quotient, by the vector division and its sign fix-up, is the quotient by 32. -/
theorem div_eq : ∀ d : Fin 256,
    (Scalar.select
      (IntOp.andi
        (IntOp.cmpi CmpIPredicate.ne
          (IntOp.subi (BitVec.setWidth 32 (IntOp.cmpi CmpIPredicate.sgt (BitVec.ofNat 32 d) 0#32))
            (BitVec.setWidth 32 (IntOp.cmpi CmpIPredicate.slt (BitVec.ofNat 32 d) 0#32)))
          (Scalar.subi (Scalar.extui (Scalar.cmpi CmpIPredicate.sgt 32#32 0#32))
            (Scalar.extui (Scalar.cmpi CmpIPredicate.slt 32#32 0#32))))
        (IntOp.cmpi CmpIPredicate.ne (IntOp.remsi ArithUnit.vector (BitVec.ofNat 32 d) 32#32) 0#32))
      (IntOp.subi (IntOp.divsi ArithUnit.vector (BitVec.ofNat 32 d) 32#32) 1#32)
      (IntOp.divsi ArithUnit.vector (BitVec.ofNat 32 d) 32#32))
    = BitVec.ofNat 32 (d.val / 32) := by
  decide +kernel

/-- The replication matrix's entry: 1 at the column's residue, else 0. -/
theorem hot_eq (j x : Fin 32) :
    (FloatOps.sitofp FTy.f32 (BitVec.setWidth 32 (IntOp.cmpi CmpIPredicate.eq (BitVec.ofNat 32 j) (BitVec.ofNat 32 x))) : Ideal .f32)
      = if x = j then (1 : EReal) else 0 := by
  have h : ∀ j x : Fin 32, (BitVec.setWidth 32 (IntOp.cmpi CmpIPredicate.eq (BitVec.ofNat 32 j) (BitVec.ofNat 32 x)) : BitVec 32).toInt
      = if x = j then 1 else 0 := by decide +kernel
  show (((_ : BitVec 32).toInt : ℝ) : EReal) = _
  rw [h]; split <;> simp

/-- A byte converted to a float and back is that byte. -/
theorem back_eq (s : BitVec 8) :
    FloatOps.fptosi (F := Ideal) 32 (FloatOps.sitofp FTy.f32 (BitVec.setWidth 32 s) : Ideal .f32) = BitVec.setWidth 32 s := by
  have h : ∀ s : Fin 256, (BitVec.setWidth 32 (BitVec.ofFin s : BitVec 8) : BitVec 32).toInt = (s.val : Int) := by decide +kernel
  have h' : (BitVec.setWidth 32 s : BitVec 32).toInt = (s.toNat : Int) := h s.toFin
  show Ideal.fptosi 32 ((((BitVec.setWidth 32 s : BitVec 32).toInt : ℝ)) : EReal) = _
  rw [h']
  have hs := s.isLt
  unfold Ideal.fptosi
  have : Ideal.toIntClamped (-(2 ^ (32 - 1) : Nat)) ((2 ^ (32 - 1) : Nat) - 1) ((((s.toNat : Int) : ℝ)) : EReal) = (s.toNat : Int) := by
    show max _ (min _ (if 0 ≤ (((s.toNat : Int) : ℝ)) then ⌊(((s.toNat : Int) : ℝ))⌋ else ⌈(((s.toNat : Int) : ℝ))⌉)) = _
    rw [if_pos (by positivity), Int.floor_intCast]; omega
  rw [this]
  apply BitVec.eq_of_toNat_eq
  simp

/-- A column's byte among the 32 sign bytes of its row. -/
def col (d : Fin 256) : Fin 32 := ⟨d.val % 32, Nat.mod_lt _ (by decide)⟩

/-- The weight of column `d` from its sign byte and its low-bits byte. -/
def wt (s e : BitVec 8) (d : Fin 256) : EReal := (((code s e (BitVec.ofNat 32 (d.val / 32))).toInt : ℝ) : EReal)

/-- One half, as the programs spell it. -/
abbrev half : EReal := Ideal.ofBits FTy.f32 1056964608#32

/-- A sum over the 256 columns, by bit and by byte. -/
theorem sum_cols (f : Fin 256 → EReal) :
    ∑ d, f d = ∑ k : Fin 8, ∑ j : Fin 32, f ⟨k.val * 32 + j.val, by omega⟩ := by
  rw [← Fintype.sum_prod_type', ← (finProdFinEquiv (m := 8) (n := 32)).sum_comp]
  refine Finset.sum_congr rfl fun x _ => congrArg f (Fin.ext ?_)
  show x.2.val + 32 * x.1.val = x.1.val * 32 + x.2.val
  omega

end Cert.Code

end
-- ==== Proof.Point.lean ====
/-
  What the body leaves in the output at an index, over the extended reals.
-/
module

public import proofs.«01_k».proof.Proof.Body
public import proofs.«01_k».proof.Proof.Code

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

/-- The decoded weight of row `n`, column `d`: the matrix product with the replication matrix picks the column's sign
    byte exactly, and the rest is integer arithmetic on it and the low-bits byte. -/
theorem wgt_at (x3 : Vec Ideal S512x32 .i8) (x4 : Vec Ideal S512x256 .i8) (n : Fin 512) (d : Fin 256) :
    wgt (F := Ideal) x3 x4 (ix2 n d) = Code.wt (x3 (ix2 n (Code.col d))) (x4 (ix2 n d)) d := by
  have hd : (d.val / 32) < 8 := by omega
  unfold wgt k0_pay31 k0_pay28 k0_pay29 k0_pay30
  pointwise
  rw [Code.mod_eq, Code.div_eq]
  have hs : (∑ x : Fin 32, FloatOps.sitofp (F := Ideal) FTy.f32 (BitVec.setWidth 32 (x3 (ix2 n x))) *
        FloatOps.sitofp (F := Ideal) FTy.f32 (BitVec.setWidth 32 (IntOp.cmpi CmpIPredicate.eq (BitVec.ofNat 32 (d.val % 32)) (BitVec.ofNat 32 x.val))) : EReal)
      = FloatOps.sitofp (F := Ideal) FTy.f32 (BitVec.setWidth 32 (x3 (ix2 n (Code.col d)))) := by
    have h := fun x => Code.hot_eq (Code.col d) x
    rw [Finset.sum_eq_single (Code.col d)]
    · refine (congrArg₂ (· * ·) rfl (h _)).trans ?_
      rw [if_pos rfl]; exact mul_one _
    · intro x _ hx
      refine (congrArg₂ (· * ·) rfl (h _)).trans ?_
      rw [if_neg hx]; exact mul_zero _
    · intro hx; exact absurd (Finset.mem_univ _) hx
  have hb := (congrArg (fun z : EReal => FloatOps.fptosi (F := Ideal) (φ := .f32) 32 z) hs).trans (Code.back_eq _)
  unfold Code.wt
  rw [← Code.codeK_eq _ _ ⟨d.val / 32, hd⟩]
  unfold Code.codeK
  rw [← hb]
  rfl

/-- The output at row `m`, lane `n`: the two offsets, and half the rescale times the row product. -/
def outG (x1 : Vec Ideal S3072x256 .bf16) (x3 : Vec Ideal S512x32 .i8) (x4 : Vec Ideal S512x256 .i8) (x5 x6 : Vec Ideal S1x512 .f32)
    (s : Vec Ideal S3072x128 .f32) (m : Fin 3072) (n : Fin 512) : EReal :=
  (x5 (ix2 0 n) + s (ix2 m ⟨n.val % 128, Nat.mod_lt _ (by decide)⟩))
    + Code.half * x6 (ix2 0 n) * ∑ d : Fin 256, x1 (ix2 m d) * Code.wt (x3 (ix2 n (Code.col d))) (x4 (ix2 n d)) d

/-- One row block of the output at an index. -/
theorem oblk_at (x3 : Vec Ideal S512x32 .i8) (x4 : Vec Ideal S512x256 .i8) (x5 x6 : Vec Ideal S1x512 .f32) (xc : Vec Ideal S512x256 .bf16) (sc : Vec Ideal S512x128 .f32)
    (x0 x1 : Fin 512) :
    oblk (F := Ideal) x3 x4 x5 x6 xc sc (ix2 x0 x1)
      = ((x5 (ix2 0 x1) + sc (ix2 x0 ⟨x1.val % 128, Nat.mod_lt _ (by decide)⟩))
    + Code.half * x6 (ix2 0 x1) * ∑ d : Fin 256, xc (ix2 x0 d) * Code.wt (x3 (ix2 x1 (Code.col d))) (x4 (ix2 x1 d)) d : EReal) := by
  have hw : ∀ d, wgt (F := Ideal) x3 x4 (ix2 x1 d) = Code.wt (x3 (ix2 x1 (Code.col d))) (x4 (ix2 x1 d)) d := wgt_at x3 x4 x1
  simp only [← hw]
  unfold oblk k0_pay3 k0_pay32 k0_pay33
  generalize wgt x3 x4 = w
  pointwise
  refine congrArg₂ (· + ·) (congrArg₂ (· + ·) rfl ?_) rfl
  have := x1.isLt
  split_ifs <;> exact congrArg sc (congrArg₂ ix2 rfl (Fin.mk_eq_mk.2 (by omega)))

/-- The row block from row `o` is that part of `outG`. -/
theorem oblk_piece (X1 : Vec Ideal S3072x256 .bf16) (x3 : Vec Ideal S512x32 .i8) (x4 : Vec Ideal S512x256 .i8) (x5 x6 : Vec Ideal S1x512 .f32)
    (s : Vec Ideal S3072x128 .f32) (o : Nat)
    (h1 : ∀ a, (![o, 0] : Fin 2 → Nat) a + S512x256.size a ≤ S3072x256.size a) (h2 : ∀ a, (![o, 0] : Fin 2 → Nat) a + S512x128.size a ≤ S3072x128.size a)
    (h3 : ∀ a, (![o, 0] : Fin 2 → Nat) a + S512x512.size a ≤ S3072x512.size a) (x : S512x512.Idx) :
    oblk (F := Ideal) x3 x4 x5 x6 (View.ld X1 (Rect.unit (s := S3072x256) ![o, 0] S512x256.size h1))
        (View.ld s (Rect.unit (s := S3072x128) ![o, 0] S512x128.size h2)) x
      = outG X1 x3 x4 x5 x6 s ((Rect.unit (s := S3072x512) ![o, 0] S512x512.size h3).emb x 0)
          ((Rect.unit (s := S3072x512) ![o, 0] S512x512.size h3).emb x 1) := by
  have e0 : ((((Rect.unit (s := S3072x512) ![o, 0] S512x512.size h3).emb x) 0 : Fin _) : Nat) = o + (x 0).val := by
    rw [ValueKit.rect_emb_unit_val]; rfl
  have e1 : ((((Rect.unit (s := S3072x512) ![o, 0] S512x512.size h3).emb x) 1 : Fin _) : Nat) = (x 1).val := by
    rw [ValueKit.rect_emb_unit_val]; exact Nat.zero_add _
  generalize (Rect.unit (s := S3072x512) ![o, 0] S512x512.size h3).emb x = y at *
  idx_vars x
  idx_vars y
  have hr : o + x0.val < 3072 := by have := y0.isLt; omega
  obtain rfl : y0 = ⟨o + x0.val, hr⟩ := Fin.ext e0
  obtain rfl : y1 = x1 := Fin.ext e1
  rw [oblk_at]
  pointwise
  rfl

/-- The output as an array. -/
def outF (X1 : Vec Ideal S3072x256 .bf16) (x3 : Vec Ideal S512x32 .i8) (x4 : Vec Ideal S512x256 .i8) (x5 x6 : Vec Ideal S1x512 .f32)
    (s : Vec Ideal S3072x128 .f32) : Vec Ideal S3072x512 .f32 := fun y => outG X1 x3 x4 x5 x6 s (y 0) (y 1)

/-- The whole output at an index. -/
theorem outV_at (X1 : Vec Ideal S3072x256 .bf16) (x3 : Vec Ideal S512x32 .i8) (x4 : Vec Ideal S512x256 .i8) (x5 x6 : Vec Ideal S1x512 .f32)
    (s : Vec Ideal S3072x128 .f32) (y : S3072x512.Idx) :
    outV (F := Ideal) X1 x3 x4 x5 x6 s y = outG X1 x3 x4 x5 x6 s (y 0) (y 1) :=
  (congrFun (congrArg View.canon (List.append_nil _).symm) y).trans
    (View.canon_append_of_piecesOf (outF X1 x3 x4 x5 x6 s) [] (outL X1 x3 x4 x5 x6 s)
      ⟨oblk_piece X1 x3 x4 x5 x6 s 2560 inb_S3072x256_S512x256_2560_0 inb_S3072x128_S512x128_2560_0 inb_S3072x512_S512x512_2560_0, oblk_piece X1 x3 x4 x5 x6 s 2048 inb_S3072x256_S512x256_2048_0 inb_S3072x128_S512x128_2048_0 inb_S3072x512_S512x512_2048_0, oblk_piece X1 x3 x4 x5 x6 s 1536 inb_S3072x256_S512x256_1536_0 inb_S3072x128_S512x128_1536_0 inb_S3072x512_S512x512_1536_0, oblk_piece X1 x3 x4 x5 x6 s 1024 inb_S3072x256_S512x256_1024_0 inb_S3072x128_S512x128_1024_0 inb_S3072x512_S512x512_1024_0, oblk_piece X1 x3 x4 x5 x6 s 512 inb_S3072x256_S512x256_512_0 inb_S3072x128_S512x128_512_0 inb_S3072x512_S512x512_512_0, oblk_piece X1 x3 x4 x5 x6 s 0 inb_S3072x256_S512x256_0_0 inb_S3072x128_S512x128_0_0 inb_S3072x512_S512x512_0_0, trivial⟩ y
      (outL_cover _ _ _ _ _ _ y))

end Cert.KernelIdeal.Hand

end
-- ==== Proof.IFrame.lean ====
/-
  The idealized kernel's run: the proof data of its one pipeline, the body's obligation at every grid point, the launch.
  The blocks of the four streamed operands overhang their arrays at the last point, so what the staging buffers hold past
  the array's end is unknown; the output at a lane reads the operands at that lane only (`out_cut`), so the part of the
  output inside its array is known all the same.
-/
module

public import proofs.«01_k».proof.Proof.Point
public import Idealize.ShloMosaic.Lib.Pipeline.Covers

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

local notation "𝕄" => MT nD τ sig Unit (Elt Ideal) ℕ (UR sig nD τ) ℕ

variable (m : (ℓ : Loc nD τ sig) → Buf (Elt Ideal) ℓ) (ρ : Dev nD → PrngReg)

/-- The queries and the group offsets as the region finds them. -/
def xarr (c : Dev nD) : Vec Ideal S3072x256 .bf16 := V m c main_v0
def garr (c : Dev nD) : Vec Ideal S24x128 .f32 := V m c main_arg5

/-- The two whole-array windows' blocks are the arrays. -/
theorem iblk_0 (c : Dev nD) (t : Fin cfg0.N) : iblk m c 0 t = xarr m c := by
  funext y
  unfold iblk xarr
  have h : ∀ a, win0_0.index t a = 0 := fun a => match a with | ⟨0, _⟩ => rfl | ⟨1, _⟩ => rfl
  exact congrArg (V m c main_v0) (funext fun a => Fin.ext (win0_0.rect_emb_val_of_index_zero t a (h a) y))

/-- The group offsets' block is the whole array. -/
theorem iblk_1 (c : Dev nD) (t : Fin cfg0.N) : iblk m c 1 t = garr m c := by
  funext y
  unfold iblk garr
  have h : ∀ a, win0_1.index t a = 0 := fun a => match a with | ⟨0, _⟩ => rfl | ⟨1, _⟩ => rfl
  exact congrArg (V m c main_arg5) (funext fun a => Fin.ext (win0_1.rect_emb_val_of_index_zero t a (h a) y))

/-- A streamed operand's block at point `t`, filled out past the array's end with the element `z`. -/
def pad2 (c : Dev nD) (t : Fin cfg0.N) : Vec Ideal S512x32 .i8 := win0_2.fill (grid0.coords t) (fun _ => (0#8 : BitVec 8)) (iblk m c 2 t)
def pad3 (c : Dev nD) (t : Fin cfg0.N) : Vec Ideal S512x256 .i8 := win0_3.fill (grid0.coords t) (fun _ => (0#8 : BitVec 8)) (iblk m c 3 t)
def pad4 (c : Dev nD) (t : Fin cfg0.N) : Vec Ideal S1x512 .f32 := win0_4.fill (grid0.coords t) (fun _ => (0 : EReal)) (iblk m c 4 t)
def pad5 (c : Dev nD) (t : Fin cfg0.N) : Vec Ideal S1x512 .f32 := win0_5.fill (grid0.coords t) (fun _ => (0 : EReal)) (iblk m c 5 t)

/-- The output block at point `t`. -/
def oblock (c : Dev nD) (t : Fin cfg0.N) : Vec Ideal S3072x512 .f32 :=
  outF (xarr m c) (pad2 m c t) (pad3 m c t) (pad4 m c t) (pad5 m c t) (gcol (F := Ideal) (garr m c))

/-- Before the first point the scratch holds anything; from then on the group offsets laid down its rows. -/
def inv (c : Dev nD) (n : Nat) : sProp 𝕄 :=
  if n = 0 then Pipeline.ΦA spec0 c
  else iprop(owns (c : Thread nD τ) (Memref.whole cc0_scratch0) fullShare (gcol (F := Ideal) (garr m c)) ∗ (∃ r, prngReg c r))

/-- Before the first point the invariant asks for the scratch, whatever it holds. -/
theorem inv_zero (c : Dev nD) : inv m c 0 = Pipeline.ΦA spec0 c := if_pos rfl
/-- From the second point on the invariant holds the scratch at the spread group offsets. -/
theorem inv_pos (c : Dev nD) {n : Nat} (h : n ≠ 0) :
    inv m c n = iprop(owns (c : Thread nD τ) (Memref.whole cc0_scratch0) fullShare (gcol (F := Ideal) (garr m c)) ∗ (∃ r, prngReg c r)) := if_neg h

/-- The pipeline's proof data. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => pad2 m c t
    | ⟨3, _⟩ => pad3 m c t
    | ⟨4, _⟩ => pad4 m c t
    | ⟨5, _⟩ => pad5 m c t
    | ⟨6, _⟩ => oblock m c t
  Φ t := inv m c t.val
  q _ := fullShare
  owed _ := 0

/-- The proof data's arrays are the region-entry contents. -/
theorem A_eq (c : Dev nD) (w : Fin cfg0.W) : (dats m 0 c).A w = V m c (Pipeline.arrRef spec0 w) := by dsimp only [dats]

/-- The invariant's first form conjunct by conjunct. -/
theorem Phi_eq (c : Dev nD) :
    (Pipeline.ΦA spec0 c : sProp 𝕄) = iprop((∃ d, owns (c : Thread nD τ) (Memref.whole cc0_scratch0) fullShare d) ∗ (∃ r, prngReg c r)) := by
  unfold Pipeline.ΦA
  rw [scopedRest0_eq]; simp only [owns_whole]; try rfl

/-! ## What the body finds -/

/-- What the body finds in window 0's buffer. -/
theorem before_0 (c : Dev nD) (t : Fin cfg0.N) (d) : (dats m 0 c).before (0 : Fin 7) t d = xarr m c :=
  (before0_0_of m (dats m 0 c) (A_eq m c 0) (fun _ => rfl) t d).trans (iblk_0 m c t)
/-- What the body finds in window 1's buffer. -/
theorem before_1 (c : Dev nD) (t : Fin cfg0.N) (d) : (dats m 0 c).before (1 : Fin 7) t d = garr m c :=
  (before0_1_of m (dats m 0 c) (A_eq m c 1) (fun _ => rfl) t d).trans (iblk_1 m c t)
/-- What the body finds in window 2's buffer, filled out past the array's end by whatever was there. -/
theorem before_2 (c : Dev nD) (t : Fin cfg0.N) (d) : (dats m 0 c).before (2 : Fin 7) t d = win0_2.fill (grid0.coords t) d (iblk m c 2 t) := by
  unfold Dat.before; rw [if_pos (fetch0_2 t)]; rfl
/-- What the body finds in window 3's buffer, filled out past the array's end by whatever was there. -/
theorem before_3 (c : Dev nD) (t : Fin cfg0.N) (d) : (dats m 0 c).before (3 : Fin 7) t d = win0_3.fill (grid0.coords t) d (iblk m c 3 t) := by
  unfold Dat.before; rw [if_pos (fetch0_3 t)]; rfl
/-- What the body finds in window 4's buffer, filled out past the array's end by whatever was there. -/
theorem before_4 (c : Dev nD) (t : Fin cfg0.N) (d) : (dats m 0 c).before (4 : Fin 7) t d = win0_4.fill (grid0.coords t) d (iblk m c 4 t) := by
  unfold Dat.before; rw [if_pos (fetch0_4 t)]; rfl
/-- What the body finds in window 5's buffer, filled out past the array's end by whatever was there. -/
theorem before_5 (c : Dev nD) (t : Fin cfg0.N) (d) : (dats m 0 c).before (5 : Fin 7) t d = win0_5.fill (grid0.coords t) d (iblk m c 5 t) := by
  unfold Dat.before; rw [if_pos (fetch0_5 t)]; rfl

/-! ## The output at a lane reads the operands at that lane -/

/-- What a block holds on the part its transfers move does not depend on what it was filled out with. -/
theorem fill_moved {G : Pipeline.Grid} (w : Window sig G) {α : Type} (i : G.Coords) (d d' : w.block.Idx → α) (g : (w.xblock i).Idx → α) (j : w.block.Idx)
    (h : w.moved i j = true) : w.fill i d g j = w.fill i d' g j := by
  unfold Window.fill; rw [dif_pos h, dif_pos h]

/-- The body's output and the proof data's agree on the part inside the array. -/
theorem out_cut (c : Dev nD) (t : Fin cfg0.N) (d2 : Vec Ideal S512x32 .i8) (d3 : Vec Ideal S512x256 .i8) (d4 d5 : Vec Ideal S1x512 .f32) :
    win0_6.cut (grid0.coords t) (outV (F := Ideal) (xarr m c) (win0_2.fill (grid0.coords t) d2 (iblk m c 2 t)) (win0_3.fill (grid0.coords t) d3 (iblk m c 3 t))
        (win0_4.fill (grid0.coords t) d4 (iblk m c 4 t)) (win0_5.fill (grid0.coords t) d5 (iblk m c 5 t)) (gcol (F := Ideal) (garr m c)))
      = win0_6.cut (grid0.coords t) (oblock m c t) := by
  funext j
  have hj : (j 1).val < win0_6.xsize (grid0.coords t) 1 := (j 1).isLt
  have hn : (win0_6.xinj (grid0.coords t) j 1).val = (j 1).val := rfl
  show outV _ _ _ _ _ _ (win0_6.xinj (grid0.coords t) j) = oblock m c t (win0_6.xinj (grid0.coords t) j)
  rw [outV_at]
  unfold oblock outF
  generalize win0_6.xinj (grid0.coords t) j = y at *
  have h2 : ∀ k : Fin 32, win0_2.fill (grid0.coords t) d2 (iblk m c 2 t) (ix2 (y 1) k) = pad2 m c t (ix2 (y 1) k) := fun k =>
    fill_moved win0_2 _ _ _ _ _ ((win0_2.moved_iff _ _).2 fun a => by
      match a with
      | ⟨0, _⟩ => exact lt_of_eq_of_lt hn hj
      | ⟨1, _⟩ => exact k.isLt)
  have h3 : ∀ k : Fin 256, win0_3.fill (grid0.coords t) d3 (iblk m c 3 t) (ix2 (y 1) k) = pad3 m c t (ix2 (y 1) k) := fun k =>
    fill_moved win0_3 _ _ _ _ _ ((win0_3.moved_iff _ _).2 fun a => by
      match a with
      | ⟨0, _⟩ => exact lt_of_eq_of_lt hn hj
      | ⟨1, _⟩ => exact k.isLt)
  have h4 : win0_4.fill (grid0.coords t) d4 (iblk m c 4 t) (ix2 0 (y 1)) = pad4 m c t (ix2 0 (y 1)) :=
    fill_moved win0_4 _ _ _ _ _ ((win0_4.moved_iff _ _).2 fun a => by
      match a with
      | ⟨0, _⟩ => exact Nat.zero_lt_one
      | ⟨1, _⟩ => exact lt_of_eq_of_lt hn hj)
  have h5 : win0_5.fill (grid0.coords t) d5 (iblk m c 5 t) (ix2 0 (y 1)) = pad5 m c t (ix2 0 (y 1)) :=
    fill_moved win0_5 _ _ _ _ _ ((win0_5.moved_iff _ _).2 fun a => by
      match a with
      | ⟨0, _⟩ => exact Nat.zero_lt_one
      | ⟨1, _⟩ => exact lt_of_eq_of_lt hn hj)
  unfold outG
  rw [h4, h5]
  refine congrArg₂ (· + ·) rfl (congrArg₂ (· * ·) rfl (Finset.sum_congr rfl fun d _ => ?_))
  rw [h2, h3]

/-! ## The body's obligation -/

/-- The scratch is filled at the first point only. -/
theorem hcond : ∀ t : Fin cfg0.N, cond0 (grid0.coords t) ↔ t.val = 0 :=
  (by decide +kernel : ∀ t : Fin grid0.N, cond0 (grid0.coords t) ↔ t.val = 0)

/-- The body table's row at a point is the body. -/
theorem defs₀_row (t : Fin cfg0.N) : defs₀ (F := Ideal) .tc cfg0.body (cfg0.bodyArgs t (cfg0.slots t)) = bodyAt0 t := by
  unfold defs₀; rw [Defs.onTc_tc]

/-- The body at a point, the invariant's two forms taken together. -/
theorem sound_body (c : Dev nD) (t : Fin cfg0.N) (d2 : Vec Ideal S512x32 .i8) (d3 : Vec Ideal S512x256 .i8) (d4 d5 : Vec Ideal S1x512 .f32)
    (d6 : Vec Ideal S3072x512 .f32) (K : PUnit → sProp 𝕄) :
    iprop(inv m c t.val
          ∗ owns (c : Thread nD τ) (st0_0 t) fullShare (xarr m c) ∗ owns (c : Thread nD τ) (st0_1 t) fullShare (garr m c)
          ∗ owns (c : Thread nD τ) (st0_2 t) fullShare d2 ∗ owns (c : Thread nD τ) (st0_3 t) fullShare d3
          ∗ owns (c : Thread nD τ) (st0_4 t) fullShare d4 ∗ owns (c : Thread nD τ) (st0_5 t) fullShare d5
          ∗ owns (c : Thread nD τ) (st0_6 t) fullShare d6
          ∗ ((inv m c (t.val + 1)
          ∗ owns (c : Thread nD τ) (st0_0 t) fullShare (xarr m c) ∗ owns (c : Thread nD τ) (st0_1 t) fullShare (garr m c)
          ∗ owns (c : Thread nD τ) (st0_2 t) fullShare d2 ∗ owns (c : Thread nD τ) (st0_3 t) fullShare d3
          ∗ owns (c : Thread nD τ) (st0_4 t) fullShare d4 ∗ owns (c : Thread nD τ) (st0_5 t) fullShare d5
          ∗ owns (c : Thread nD τ) (st0_6 t) fullShare (outV (F := Ideal) (xarr m c) d2 d3 d4 d5 (gcol (F := Ideal) (garr m c)))) -∗ K ⟨⟩))
      ⊢ wp frame (wpE (defs₀ (F := Ideal)) Variants.none c none) Set.univ (bodyAt0 t) K := by
  unfold bodyAt0
  rw [inv_pos m c (Nat.succ_ne_zero t.val)]
  by_cases h0 : t.val = 0
  · rw [h0, inv_zero, Phi_eq]
    iintro ⟨⟨HS, Hg⟩, H0, H1, H2, H3, H4, H5, H6, Hk⟩
    iapply (run_first (F := Ideal) c (grid0.coords t) ((hcond t).2 h0) (st0_0 t) _ (st0_1 t) _ (st0_2 t) _ (st0_3 t) _ (st0_4 t) _ (st0_5 t) _ (st0_6 t) _ (Memref.whole cc0_scratch0) _
      (xarr m c) (garr m c) d2 d3 d4 d5 _)
    isplitl [H0]; · iexact H0
    isplitl [H1]; · iexact H1
    isplitl [H2]; · iexact H2
    isplitl [H3]; · iexact H3
    isplitl [H4]; · iexact H4
    isplitl [H5]; · iexact H5
    isplitl [H6]; · iexists d6; iexact H6
    isplitl [HS]; · iexact HS
    iintro ⟨H0, H1, H2, H3, H4, H5, H6, HS⟩
    iapply Hk
    isplitl [HS Hg]
    · isplitl [HS]; · iexact HS
      iexact Hg
    isplitl [H0]; · iexact H0
    isplitl [H1]; · iexact H1
    isplitl [H2]; · iexact H2
    isplitl [H3]; · iexact H3
    isplitl [H4]; · iexact H4
    isplitl [H5]; · iexact H5
    iexact H6
  · rw [inv_pos m c h0]
    iintro ⟨⟨HS, Hg⟩, H0, H1, H2, H3, H4, H5, H6, Hk⟩
    iapply (run_next (F := Ideal) c (grid0.coords t) (fun h => h0 ((hcond t).1 h)) (st0_0 t) _ (st0_1 t) _ (st0_2 t) _ (st0_3 t) _ (st0_4 t) _ (st0_5 t) _ (st0_6 t) _ (Memref.whole cc0_scratch0) _
      (xarr m c) (garr m c) d2 d3 d4 d5 (gcol (F := Ideal) (garr m c)) _)
    isplitl [H0]; · iexact H0
    isplitl [H1]; · iexact H1
    isplitl [H2]; · iexact H2
    isplitl [H3]; · iexact H3
    isplitl [H4]; · iexact H4
    isplitl [H5]; · iexact H5
    isplitl [H6]; · iexists d6; iexact H6
    isplitl [HS]; · iexact HS
    iintro ⟨H0, H1, H2, H3, H4, H5, H6, HS⟩
    iapply Hk
    isplitl [HS Hg]
    · isplitl [HS]; · iexact HS
      iexact Hg
    isplitl [H0]; · iexact H0
    isplitl [H1]; · iexact H1
    isplitl [H2]; · iexact H2
    isplitl [H3]; · iexact H3
    isplitl [H4]; · iexact H4
    isplitl [H5]; · iexact H5
    iexact H6

/-- The library's body obligation: the overhanging windows stated on the part inside their arrays. -/
theorem body_obligation (c : Dev nD) : BodyObligationLoose (dats m 0 c) (defs₀ (F := Ideal)) Variants.none () Set.univ := fun t => by
  rw [bigSep_W0, bigSep_W0, defs₀_row]
  simp only
  rw [show (dats m 0 c).Φ t.succ = inv m c (t.val + 1) from rfl, show (dats m 0 c).Φ t.castSucc = inv m c t.val from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩⟩
  rw [before_0 m c t d0, before_1 m c t d1, before_2 m c t d2, before_3 m c t d3, before_4 m c t d4, before_5 m c t d5]
  iapply (sound_body m c t (win0_2.fill (grid0.coords t) d2 (iblk m c 2 t)) (win0_3.fill (grid0.coords t) d3 (iblk m c 3 t))
    (win0_4.fill (grid0.coords t) d4 (iblk m c 4 t)) (win0_5.fill (grid0.coords t) d5 (iblk m c 5 t)) _ _)
  isplitl [HΦ]; · iexact HΦ
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨HΦ, H0, H1, H2, H3, H4, H5, H6⟩
  isplitl [HΦ]; · iexact HΦ
  isplitl [Ho]; · iexact Ho
  have e0 : (dats m 0 c).after 0 t = xarr m c := iblk_0 m c t
  have e1 : (dats m 0 c).after 1 t = garr m c := iblk_1 m c t
  have e2 : win0_2.cut (grid0.coords t) (pad2 m c t) = iblk m c 2 t := win0_2.cut_fill _ _ _
  have e3 : win0_3.cut (grid0.coords t) (pad3 m c t) = iblk m c 3 t := win0_3.cut_fill _ _ _
  have e4 : win0_4.cut (grid0.coords t) (pad4 m c t) = iblk m c 4 t := win0_4.cut_fill _ _ _
  have e5 : win0_5.cut (grid0.coords t) (pad5 m c t) = iblk m c 5 t := win0_5.cut_fill _ _ _
  have e6 := win0_6.fill_congr_cut (grid0.coords t) (out_cut m c t d2 d3 d4 d5)
  isplitl [H0]; · rw [e0]; iexact H0
  isplitl [H1]; · rw [e1]; iexact H1
  isplitl [H2]
  · iexists d2
    change _ ⊢ owns (c : Thread nD τ) (st0_2 t) fullShare (win0_2.fill (grid0.coords t) d2 (win0_2.cut (grid0.coords t) (pad2 m c t)))
    rw [e2]; try iexact H2
  isplitl [H3]
  · iexists d3
    change _ ⊢ owns (c : Thread nD τ) (st0_3 t) fullShare (win0_3.fill (grid0.coords t) d3 (win0_3.cut (grid0.coords t) (pad3 m c t)))
    rw [e3]; try iexact H3
  isplitl [H4]
  · iexists d4
    change _ ⊢ owns (c : Thread nD τ) (st0_4 t) fullShare (win0_4.fill (grid0.coords t) d4 (win0_4.cut (grid0.coords t) (pad4 m c t)))
    rw [e4]; try iexact H4
  isplitl [H5]
  · iexists d5
    change _ ⊢ owns (c : Thread nD τ) (st0_5 t) fullShare (win0_5.fill (grid0.coords t) d5 (win0_5.cut (grid0.coords t) (pad5 m c t)))
    rw [e5]; try iexact H5
  · iexists (outV (F := Ideal) (xarr m c) (win0_2.fill (grid0.coords t) d2 (iblk m c 2 t)) (win0_3.fill (grid0.coords t) d3 (iblk m c 3 t))
        (win0_4.fill (grid0.coords t) d4 (iblk m c 4 t)) (win0_5.fill (grid0.coords t) d5 (iblk m c 5 t)) (gcol (F := Ideal) (garr m c)))
    change _ ⊢ owns (c : Thread nD τ) (st0_6 t) fullShare (win0_6.fill (grid0.coords t) _ (win0_6.cut (grid0.coords t) (oblock m c t)))
    rw [e6]; try iexact H6

/-! ## The launch -/

/-- What the run's end is known to hold. -/
abbrev Post (r : PUnit × MemSt nD τ sig (Elt Ideal)) : Prop :=
  Pipeline.FramePost cfgs (dats m) 0 (Pipeline.afterTail₀ cfgs (dats m) 0 (V0 m) [hostOps1]) r ∧ r.2.sem = fun _ => 0

set_option backward.isDefEq.respectTransparency.types false in
/-- Every fair run of the program ends, with every array and every other buffer at the contents the proof data computes
    and every counter at zero. -/
theorem run_main : θ_run defs (onTc (τ := τ) (main (F := Ideal))) (s₀ m ρ) (Post m) :=
  Pipeline.θ_run_frame_around_track (Q' := Post m) cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := fun c => show Pipeline.ΦA spec0 c ⊢ inv m c 0 from Entails.of_eq (inv_zero m c).symm)
    (hout := fun c => show inv m c 98 ⊢ Pipeline.ΦA spec0 c from by
      rw [inv_pos m c (by decide), Phi_eq]
      iintro ⟨HS, Hg⟩
      isplitl [HS]; · iexists _; iexact HS
      iexact Hg)
    (hQ' := fun _ h => h)

end Cert.KernelIdeal.Hand

end
-- ==== Proof.KValue.lean ====
/-
  The idealized kernel's result array, index by index, and its result.
-/
module

public import proofs.«01_k».proof.Proof.IFrame

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable (m : (ℓ : Loc nD τ sig) → Buf (Elt Ideal) ℓ) (ρ : Dev nD → PrngReg)

/-- The streamed operands as the region finds them. -/
def sarr (c : Dev nD) : Vec Ideal S50000x32 .i8 := V m c main_arg1
def earr (c : Dev nD) : Vec Ideal S50000x256 .i8 := V m c main_arg2
def aarr (c : Dev nD) : Vec Ideal S1x50000 .f32 := V m c main_v1
def rarr (c : Dev nD) : Vec Ideal S1x50000 .f32 := V m c main_v2

/-! ## Where a block sits in its array, and how much of it is inside -/

/-- Block `t` of the sign bytes begins at 512 t, and as much of it is moved as is inside the array. -/
theorem geo2 : ∀ t : Fin cfg0.N, win0_2.index t 0 = t.val ∧ win0_2.index t 1 = 0 ∧ win0_2.xsize (grid0.coords t) 0 = min 512 (50000 - t.val * 512) :=
  (by decide +kernel : ∀ t : Fin grid0.N, win0_2.index t 0 = t.val ∧ win0_2.index t 1 = 0 ∧ win0_2.xsize (grid0.coords t) 0 = min 512 (50000 - t.val * 512))
/-- Block `t` of the extra-bits bytes begins at 512 t, and as much of it is moved as is inside the array. -/
theorem geo3 : ∀ t : Fin cfg0.N, win0_3.index t 0 = t.val ∧ win0_3.index t 1 = 0 ∧ win0_3.xsize (grid0.coords t) 0 = min 512 (50000 - t.val * 512) :=
  (by decide +kernel : ∀ t : Fin grid0.N, win0_3.index t 0 = t.val ∧ win0_3.index t 1 = 0 ∧ win0_3.xsize (grid0.coords t) 0 = min 512 (50000 - t.val * 512))
/-- Block `t` of the row of offsets begins at 512 t, and as much of it is moved as is inside the array. -/
theorem geo4 : ∀ t : Fin cfg0.N, win0_4.index t 1 = t.val ∧ win0_4.index t 0 = 0 ∧ win0_4.xsize (grid0.coords t) 1 = min 512 (50000 - t.val * 512) :=
  (by decide +kernel : ∀ t : Fin grid0.N, win0_4.index t 1 = t.val ∧ win0_4.index t 0 = 0 ∧ win0_4.xsize (grid0.coords t) 1 = min 512 (50000 - t.val * 512))
/-- Block `t` of the row of scales begins at 512 t, and as much of it is moved as is inside the array. -/
theorem geo5 : ∀ t : Fin cfg0.N, win0_5.index t 1 = t.val ∧ win0_5.index t 0 = 0 ∧ win0_5.xsize (grid0.coords t) 1 = min 512 (50000 - t.val * 512) :=
  (by decide +kernel : ∀ t : Fin grid0.N, win0_5.index t 1 = t.val ∧ win0_5.index t 0 = 0 ∧ win0_5.xsize (grid0.coords t) 1 = min 512 (50000 - t.val * 512))
/-- Block `t` of the result begins at lane 512 t, and as much of it is moved as is inside the array. -/
theorem geo6 : ∀ t : Fin cfg0.N, win0_6.index t 1 = t.val ∧ win0_6.index t 0 = 0 ∧ win0_6.xsize (grid0.coords t) 1 = min 512 (50000 - t.val * 512) :=
  (by decide +kernel : ∀ t : Fin grid0.N, win0_6.index t 1 = t.val ∧ win0_6.index t 0 = 0 ∧ win0_6.xsize (grid0.coords t) 1 = min 512 (50000 - t.val * 512))

/-- The staged sign bytes, inside the array, are the array's at 512 t + n. -/
theorem pad2_at (c : Dev nD) (t : Fin cfg0.N) (n : Fin 512) (k : Fin 32) (h : t.val * 512 + n.val < 50000) :
    pad2 m c t (ix2 n k) = sarr m c (ix2 ⟨t.val * 512 + n.val, h⟩ k) := by
  obtain ⟨g0, g1, gx⟩ := geo2 t
  unfold pad2 Window.fill
  rw [dif_pos ((win0_2.moved_iff _ _).2 fun a => by
      match a with
      | ⟨0, _⟩ => exact lt_of_lt_of_eq (show n.val < min 512 (50000 - t.val * 512) by omega) gx.symm
      | ⟨1, _⟩ => exact k.isLt)]
  refine congrArg (V m c main_arg1) (funext fun a => Fin.ext ((win0_2.rect_emb_val t _ a).trans ?_))
  match a with
  | ⟨0, _⟩ => exact congrArg (fun z => z * 512 + n.val) g0
  | ⟨1, _⟩ => exact (congrArg (fun z => z * 32 + k.val) g1).trans (show 0 * 32 + k.val = k.val by omega)

/-- The staged extra-bits bytes, inside the array, are the array's at 512 t + n. -/
theorem pad3_at (c : Dev nD) (t : Fin cfg0.N) (n : Fin 512) (k : Fin 256) (h : t.val * 512 + n.val < 50000) :
    pad3 m c t (ix2 n k) = earr m c (ix2 ⟨t.val * 512 + n.val, h⟩ k) := by
  obtain ⟨g0, g1, gx⟩ := geo3 t
  unfold pad3 Window.fill
  rw [dif_pos ((win0_3.moved_iff _ _).2 fun a => by
      match a with
      | ⟨0, _⟩ => exact lt_of_lt_of_eq (show n.val < min 512 (50000 - t.val * 512) by omega) gx.symm
      | ⟨1, _⟩ => exact k.isLt)]
  refine congrArg (V m c main_arg2) (funext fun a => Fin.ext ((win0_3.rect_emb_val t _ a).trans ?_))
  match a with
  | ⟨0, _⟩ => exact congrArg (fun z => z * 512 + n.val) g0
  | ⟨1, _⟩ => exact (congrArg (fun z => z * 256 + k.val) g1).trans (show 0 * 256 + k.val = k.val by omega)

/-- The staged row of offsets, inside the array, are the array's at 512 t + n. -/
theorem pad4_at (c : Dev nD) (t : Fin cfg0.N) (n : Fin 512) (h : t.val * 512 + n.val < 50000) :
    pad4 m c t (ix2 0 n) = aarr m c (ix2 0 ⟨t.val * 512 + n.val, h⟩) := by
  obtain ⟨g1, g0, gx⟩ := geo4 t
  unfold pad4 Window.fill
  rw [dif_pos ((win0_4.moved_iff _ _).2 fun a => by
      match a with
      | ⟨0, _⟩ => exact Nat.zero_lt_one
      | ⟨1, _⟩ => exact lt_of_lt_of_eq (show n.val < min 512 (50000 - t.val * 512) by omega) gx.symm)]
  refine congrArg (V m c main_v1) (funext fun a => Fin.ext ((win0_4.rect_emb_val t _ a).trans ?_))
  match a with
  | ⟨0, _⟩ => exact congrArg (fun z => z * 1 + 0) g0
  | ⟨1, _⟩ => exact congrArg (fun z => z * 512 + n.val) g1

/-- The staged row of scales, inside the array, are the array's at 512 t + n. -/
theorem pad5_at (c : Dev nD) (t : Fin cfg0.N) (n : Fin 512) (h : t.val * 512 + n.val < 50000) :
    pad5 m c t (ix2 0 n) = rarr m c (ix2 0 ⟨t.val * 512 + n.val, h⟩) := by
  obtain ⟨g1, g0, gx⟩ := geo5 t
  unfold pad5 Window.fill
  rw [dif_pos ((win0_5.moved_iff _ _).2 fun a => by
      match a with
      | ⟨0, _⟩ => exact Nat.zero_lt_one
      | ⟨1, _⟩ => exact lt_of_lt_of_eq (show n.val < min 512 (50000 - t.val * 512) by omega) gx.symm)]
  refine congrArg (V m c main_v2) (funext fun a => Fin.ext ((win0_5.rect_emb_val t _ a).trans ?_))
  match a with
  | ⟨0, _⟩ => exact congrArg (fun z => z * 1 + 0) g0
  | ⟨1, _⟩ => exact congrArg (fun z => z * 512 + n.val) g1

/-! ## The result array -/

/-- The result array's element at row `r`, lane `n`. -/
def elem (c : Dev nD) (r : Fin 3072) (n : Fin 50000) : EReal :=
  (aarr m c (ix2 0 n) + garr m c (ix2 ⟨r.val / 128, Nat.div_lt_of_lt_mul r.isLt⟩ ⟨r.val % 128, Nat.mod_lt _ (by decide)⟩))
    + Code.half * rarr m c (ix2 0 n) * ∑ d : Fin 256, xarr m c (ix2 r d) * Code.wt (sarr m c (ix2 n (Code.col d))) (earr m c (ix2 n d)) d

/-- The result array. -/
def outArr (c : Dev nD) : Vec Ideal S3072x50000 .f32 := fun y => elem m c (y 0) (y 1)

/-- The block computed at point `t`, at a lane inside the array, is the result's element there. -/
theorem oblock_at (c : Dev nD) (t : Fin cfg0.N) (r : Fin 3072) (n : Fin 512) (h : t.val * 512 + n.val < 50000) :
    oblock m c t (ix2 r n) = elem m c r ⟨t.val * 512 + n.val, h⟩ := by
  show outG _ _ _ _ _ _ r n = _
  unfold outG elem
  have hg : gcol (F := Ideal) (garr m c) (ix2 r ⟨n.val % 128, Nat.mod_lt _ (by decide)⟩)
      = garr m c (ix2 ⟨r.val / 128, Nat.div_lt_of_lt_mul r.isLt⟩ ⟨r.val % 128, Nat.mod_lt _ (by decide)⟩) := rfl
  rw [pad4_at m c t n h, pad5_at m c t n h, hg]
  refine congrArg₂ (· + ·) rfl (congrArg₂ (· * ·) rfl (Finset.sum_congr rfl fun d _ => ?_))
  rw [pad2_at m c t n _ h, pad3_at m c t n _ h]

/-- The run leaves the result array at `outArr`. -/
theorem arr_6 (c : Dev nD) : (dats m 0 c).arrAt 6 cfg0.N = outArr m c := by
  refine (dats m 0 c).arrAt_eq_of_covers 6 (outArr m c) (by decide +kernel) fun t hf y => ?_
  obtain ⟨g1, g0, gx⟩ := geo6 t
  have hy : (y 1).val < win0_6.xsize (grid0.coords t) 1 := (y 1).isLt
  rw [gx] at hy
  have hb : t.val * 512 + (y 1).val < 50000 := by omega
  have e : win0_6.xinj (grid0.coords t) y = ix2 (n0 := 3072) (n1 := 512) ⟨(y 0).val, (y 0).isLt⟩ ⟨(y 1).val, by omega⟩ := by
    funext a
    match a with
    | ⟨0, _⟩ => rfl
    | ⟨1, _⟩ => rfl
  show oblock m c t (win0_6.xinj (grid0.coords t) y) = elem m c (((cfg0.win 6).blk t).view.emb y 0) (((cfg0.win 6).blk t).view.emb y 1)
  rw [e, oblock_at m c t _ _ hb]
  refine congrArg₂ (elem m c) (Fin.ext ?_) (Fin.ext ?_)
  · exact ((win0_6.rect_emb_val t y 0).trans ((congrArg (fun z => z * 3072 + (y 0).val) g0).trans ((congrArg (· + (y 0).val) (Nat.zero_mul 3072)).trans (Nat.zero_add _)))).symm
  · exact ((win0_6.rect_emb_val t y 1).trans (congrArg (fun z => z * 512 + (y 1).val) g1)).symm

/-! ## The host's reshapes before and after the call -/

/-- The flat activations are the activations reshaped. -/
theorem xarr_eq (c : Dev nD) : xarr m c = shapeCast S3072x256 (m ((c : Thread nD τ).loc main_arg0) : Vec Ideal S24x128x256 .bf16) shapeCasts_S24x128x256_S3072x256 := by
  show StableHlo.after hostOps0 (fun b => m (c, b)) (Proc.devRef .tc main_v0) = _
  after_results
  rfl

/-- The row of offsets is the offsets reshaped. -/
theorem aarr_eq (c : Dev nD) : aarr m c = shapeCast S1x50000 (m ((c : Thread nD τ).loc main_arg3) : Vec Ideal S50000 .f32) shapeCasts_S50000_S1x50000 := by
  show StableHlo.after hostOps0 (fun b => m (c, b)) (Proc.devRef .tc main_v1) = _
  after_results
  rfl

/-- The row of scales is the scales reshaped. -/
theorem rarr_eq (c : Dev nD) : rarr m c = shapeCast S1x50000 (m ((c : Thread nD τ).loc main_arg4) : Vec Ideal S50000 .f32) shapeCasts_S50000_S1x50000 := by
  show StableHlo.after hostOps0 (fun b => m (c, b)) (Proc.devRef .tc main_v2) = _
  after_results
  rfl

/-- The program's result is the result array reshaped. -/
theorem tail_eq (c : Dev nD) : Pipeline.afterTail₀ cfgs (dats m) 0 (V0 m) [hostOps1] c main_v4
    = (shapeCast S24x128x50000 (outArr m c) shapeCasts_S3072x50000_S24x128x50000 : Vec Ideal S24x128x50000 .f32) := by
  unfold Pipeline.afterTail₀
  rw [show (List.flatten [hostOps1 (F := Ideal)]) = hostOps1 from rfl]
  after_results
  exact congrArg (fun a : Vec Ideal S3072x50000 .f32 => shapeCast S24x128x50000 a shapeCasts_S3072x50000_S24x128x50000) ((Pipeline.withArrays_arr spec0 (by decide) c (V0 m c) _ 6).trans (arr_6 m c))

end Cert.KernelIdeal.Hand

end
-- ==== Proof.RefValue.lean ====
/-
  The reference's result over the extended reals, index by index.
-/
module

public import proofs.«01_k».proof.Proof.Gen.ReferenceIdeal.Run
public import proofs.«01_k».proof.Proof.Code
public import Idealize.ShloMosaic.Lib.Pointwise

@[expose] public section

set_option maxRecDepth 16384

noncomputable section

namespace Cert.ReferenceIdeal.Hand

open Cert.ReferenceIdeal Cert.ReferenceIdeal.Gen Idealize.ShloMosaic Idealize.ShloMosaic.TcCoe Idealize.SL.Sem Idealize.ShloMosaic.StableHlo

/-- The reference's operations composed, as a function of its six arguments. -/
def refV (a0 : FVec Ideal S24x128x256 .bf16) (a1 : IVec S50000x32 8) (a2 : IVec S50000x256 8)
    (a3 a4 : FVec Ideal S50000 .f32) (a5 : FVec Ideal S24x128 .f32) : FVec Ideal S24x128x50000 .f32 :=
  addf (addf (broadcastInDim S24x128x50000 ![0, 1, 2] bcast_S1x1x50000_S24x128x50000_0_1_2 (broadcastInDim S1x1x50000 ![2] bcast_S50000_S1x1x50000_2 a3)) (broadcastInDim S24x128x50000 ![0, 1, 2] bcast_S24x128x1_S24x128x50000_0_1_2 (broadcastInDim S24x128x1 ![0, 1] bcast_S24x128_S24x128x1_0_1 a5))) (mulf (broadcastInDim S24x128x50000 ![0, 1, 2] bcast_S1x1x50000_S24x128x50000_0_1_2 (broadcastInDim S1x1x50000 ![2] bcast_S50000_S1x1x50000_2 (mulf (broadcastInDim S50000 ![] bcast_S_S50000 (constant S_ .f32 0x3F000000#32)) a4))) (Host.dotGeneral dot_S24x128x8x32_S50000x8x32_S24x128x50000_32_21_01_0_n_n none (shapeCast _ a0 shapeCasts_S24x128x256_S24x128x8x32) (sitofp .bf16 (subi (muli (broadcastInDim S50000x8x32 ![] bcast_S_S50000x8x32 (constantI S_ 32 2#32)) (addi (Host.shli (andi (Host.shrsi (broadcastInDim S50000x8x32 ![0, 1, 2] bcast_S50000x1x32_S50000x8x32_0_1_2 (broadcastInDim S50000x1x32 ![0, 2] bcast_S50000x32_S50000x1x32_0_2 (extui 32 a1 natLt_8_32))) (broadcastInDim S50000x8x32 ![0, 1, 2] bcast_S1x8x1_S50000x8x32_0_1_2 (broadcastInDim S1x8x1 ![1] bcast_S8_S1x8x1_1 (iotaInDim S8 32 0)))) (broadcastInDim S50000x8x32 ![] bcast_S_S50000x8x32 (constantI S_ 32 1#32))) (broadcastInDim S50000x8x32 ![] bcast_S_S50000x8x32 (constantI S_ 32 4#32))) (andi (shapeCast _ (extui 32 a2 natLt_8_32) shapeCasts_S50000x256_S50000x8x32) (broadcastInDim S50000x8x32 ![] bcast_S_S50000x8x32 (constantI S_ 32 15#32))))) (broadcastInDim S50000x8x32 ![] bcast_S_S50000x8x32 (constantI S_ 32 31#32))))))

/-- The reference's result at an index: the two offsets, and half the rescale times the sum over the 256 columns of the
    query times the weight. -/
theorem refV_at (a0 : FVec Ideal S24x128x256 .bf16) (a1 : IVec S50000x32 8) (a2 : IVec S50000x256 8)
    (a3 a4 : FVec Ideal S50000 .f32) (a5 : FVec Ideal S24x128 .f32) (b : Fin 24) (t : Fin 128) (n : Fin 50000) :
    refV a0 a1 a2 a3 a4 a5 (ix3 b t n)
      = (a3 (ix1 n) + a5 (ix2 b t)) + Code.half * a4 (ix1 n) * ∑ d : Fin 256, a0 (ix3 b t d) * Code.wt (a1 (ix2 n (Code.col d))) (a2 (ix2 n d)) d := by
  unfold refV
  pointwise
  refine congrArg₂ (· + ·) rfl (congrArg₂ (· * ·) rfl ?_)
  rw [Code.sum_cols, Finset.sum_comm]
  refine Finset.sum_congr rfl fun k _ => Finset.sum_congr rfl fun j _ => ?_
  have e1 : Code.col ⟨k.val * 32 + j.val, by omega⟩ = j := Fin.ext (show (k.val * 32 + j.val) % 32 = j.val by omega)
  have e2 : (k.val * 32 + j.val) / 32 = k.val := by omega
  refine congrArg₂ (· * ·) rfl ?_
  unfold Code.wt
  rw [e1]
  show _ = (((Code.code _ _ (BitVec.ofNat 32 ((k.val * 32 + j.val) / 32))).toInt : ℝ) : EReal)
  rw [e2]
  rfl

end Cert.ReferenceIdeal.Hand

end
-- ==== Proof.Value.lean ====
/-
  The idealized kernel's result is the reference's: both at every index, and the runs that end there.
-/
module

public import proofs.«01_k».proof.Proof.KValue
public import proofs.«01_k».proof.Proof.RefValue

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem

variable (m : (ℓ : Loc nD τ sig) → Buf (Elt Ideal) ℓ) (ρ : Dev nD → PrngReg)

/-- The reference's result of the kernel's arguments. -/
def want (c : Dev nD) : FVec Ideal S24x128x50000 .f32 :=
  Cert.ReferenceIdeal.Hand.refV (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5))

/-- A flattened array's row `128 b + t` is row `t` of batch `b`. -/
theorem flat_at (v : FVec Ideal S24x128x256 .bf16) (b : Fin 24) (t : Fin 128) (d : Fin 256) (h : b.val * 128 + t.val < 3072) :
    shapeCast S3072x256 v shapeCasts_S24x128x256_S3072x256 (ix2 ⟨b.val * 128 + t.val, h⟩ d) = v (ix3 b t d) := by
  pointwise

/-- A vector laid out as one row, read at a lane. -/
theorem row_at (v : FVec Ideal S50000 .f32) (n : Fin 50000) :
    shapeCast S1x50000 v shapeCasts_S50000_S1x50000 (ix2 0 n) = v (ix1 n) := by
  pointwise

/-- An array of rows split into batches: query `t` of batch `b` is row `128 b + t`. -/
theorem split_at (v : FVec Ideal S3072x50000 .f32) (b : Fin 24) (t : Fin 128) (n : Fin 50000) (h : b.val * 128 + t.val < 3072) :
    shapeCast S24x128x50000 v shapeCasts_S3072x50000_S24x128x50000 (ix3 b t n) = v (ix2 ⟨b.val * 128 + t.val, h⟩ n) := by
  pointwise

/-- A row of the flat activations is a query of a batch. -/
theorem xarr_at (c : Dev nD) (b : Fin 24) (t : Fin 128) (d : Fin 256) (h : b.val * 128 + t.val < 3072) :
    xarr m c (ix2 ⟨b.val * 128 + t.val, h⟩ d) = (m ((c.tc : Thread nD τ).loc main_arg0) : Vec Ideal S24x128x256 .bf16) (ix3 b t d) :=
  (congrFun (xarr_eq m c) _).trans (flat_at _ b t d h)

/-- The row of offsets read at a lane. -/
theorem aarr_at (c : Dev nD) (n : Fin 50000) :
    aarr m c (ix2 0 n) = (m ((c.tc : Thread nD τ).loc main_arg3) : Vec Ideal S50000 .f32) (ix1 n) :=
  (congrFun (aarr_eq m c) _).trans (row_at _ n)

/-- The row of scales read at a lane. -/
theorem rarr_at (c : Dev nD) (n : Fin 50000) :
    rarr m c (ix2 0 n) = (m ((c.tc : Thread nD τ).loc main_arg4) : Vec Ideal S50000 .f32) (ix1 n) :=
  (congrFun (rarr_eq m c) _).trans (row_at _ n)

/-- The result array's element at query `t` of batch `b` is the reference's. -/
theorem elem_eq (c : Dev nD) (b : Fin 24) (t : Fin 128) (n : Fin 50000) (h : b.val * 128 + t.val < 3072) :
    elem m c ⟨b.val * 128 + t.val, h⟩ n = want m c (ix3 b t n) := by
  unfold want
  rw [Cert.ReferenceIdeal.Hand.refV_at]
  unfold elem
  have e1 : sarr m c = m ((c.tc : Thread nD τ).loc main_arg1) := V_main_arg1 m c
  have e2 : earr m c = m ((c.tc : Thread nD τ).loc main_arg2) := V_main_arg2 m c
  have e5 : garr m c = m ((c.tc : Thread nD τ).loc main_arg5) := V_main_arg5 m c
  rw [e1, e2, e5, aarr_at, rarr_at]
  have hd : ∀ p q, (ix2 (n0 := 24) (n1 := 128) ⟨(b.val * 128 + t.val) / 128, p⟩ ⟨(b.val * 128 + t.val) % 128, q⟩) = ix2 b t := fun p q => by
    congr 1
    · exact Fin.ext (show (b.val * 128 + t.val) / 128 = b.val by omega)
    · exact Fin.ext (show (b.val * 128 + t.val) % 128 = t.val by omega)
  rw [hd]
  refine congrArg₂ (· + ·) rfl (congrArg₂ (· * ·) rfl (Finset.sum_congr rfl fun d _ => ?_))
  rw [xarr_at]

/-- The kernel's reshaped result array is the reference's result. -/
theorem result_eq (c : Dev nD) :
    (shapeCast S24x128x50000 (outArr m c) shapeCasts_S3072x50000_S24x128x50000 : Vec Ideal S24x128x50000 .f32) = want m c := by
  funext x
  idx_vars x
  have h : x0.val * 128 + x1.val < 3072 := by omega
  exact (split_at _ x0 x1 x2 h).trans (elem_eq m c x0 x1 x2 h)

/-- The idealized kernel runs to the reference's result, its arguments unchanged and every counter at zero. -/
theorem run_want : θ_run (defs (F := Ideal)) (onTc (τ := τ) (main (F := Ideal))) ⟨m, fun _ => 0, ρ⟩ (fun r =>
    (∀ c : Dev nD, r.2.mem ((c.tc : Thread nD τ).loc main_v4) = want m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
    ∧ r.2.sem = fun _ => 0) :=
  (θ_run defs _ _).mono (fun _ h => ⟨fun c => ⟨
      ((h.1 c).2 main_v4 (Pipeline.mem_restRefs_of main_v4 (by decide) (by decide))).trans ((tail_eq m c).trans (result_eq m c)),
      ((h.1 c).2 main_arg0 (Pipeline.mem_restRefs_of main_arg0 (by decide) (by decide))).trans (W_main_arg0 m (dats m) c),
      ((h.1 c).1 2).trans (((dats m 0 c).arrAt_in 2 rfl _).trans ((A_eq m c 2).trans (V_main_arg1 m c))),
      ((h.1 c).1 3).trans (((dats m 0 c).arrAt_in 3 rfl _).trans ((A_eq m c 3).trans (V_main_arg2 m c))),
      ((h.1 c).2 main_arg3 (Pipeline.mem_restRefs_of main_arg3 (by decide) (by decide))).trans (W_main_arg3 m (dats m) c),
      ((h.1 c).2 main_arg4 (Pipeline.mem_restRefs_of main_arg4 (by decide) (by decide))).trans (W_main_arg4 m (dats m) c),
      ((h.1 c).1 1).trans (((dats m 0 c).arrAt_in 1 rfl _).trans ((A_eq m c 1).trans (V_main_arg5 m c)))⟩, h.2⟩) (run_main m ρ)

end Cert.KernelIdeal.Hand

namespace Cert.ReferenceIdeal.Hand

open Cert.ReferenceIdeal Cert.ReferenceIdeal.Gen
open Idealize.ShloMosaic Idealize.ShloMosaic.TcCoe Idealize.SL.Sem

/-- The reference runs to its composed term, its arguments unchanged. -/
theorem run_refV (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v33) = refV (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Cert.ReferenceIdeal.Value.run (F := Ideal) m ρ

end Cert.ReferenceIdeal.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KFrame
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel runs at the bits, its arguments unchanged and its counters at zero. -/
theorem quiescent_k : Cert.quiescent_Kernel (hKernel := Cert.Kernel.Gen.facts) := fun m g _ => Cert.Kernel.Hand.frame m g

/-- The idealized kernel runs, its arguments unchanged and its counters at zero. -/
theorem quiescent_ki : Cert.quiescent_KernelIdeal (hKernelIdeal := Cert.KernelIdeal.Gen.facts) := fun m g _ =>
  (θ_run Cert.KernelIdeal.defs _ _).mono (fun _ h => ⟨fun c => (h.1 c).2, h.2⟩) (Cert.KernelIdeal.Hand.run_want m g)

/-- The reference runs, its arguments unchanged; its machine has no semaphores. -/
theorem quiescent_ri : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Hand.run_refV m g)

/-- On equal arguments the idealized kernel and the reference end with equal results. -/
theorem algebraic : Cert.algebraic_KernelIdeal_ReferenceIdeal (hKernelIdeal := Cert.KernelIdeal.Gen.facts)
    (hReferenceIdeal := Cert.ReferenceIdeal.Gen.facts) := fun m g m' g' _ hag =>
  ⟨Cert.KernelIdeal.Hand.want m,
    (θ_run Cert.KernelIdeal.defs _ _).mono (fun _ h => h.1) (Cert.KernelIdeal.Hand.run_want m g),
    (θ_run Cert.ReferenceIdeal.defs _ _).mono (fun _ h c => ⟨(h c).1.trans (by
      obtain ⟨e0, e1, e2, e3, e4, e5⟩ := hag c
      unfold Cert.KernelIdeal.Hand.want
      rw [e0, e1, e2, e3, e4, e5]), (h c).2⟩) (Cert.ReferenceIdeal.Hand.run_refV m' g')⟩

/-- Everything the certificate claims. -/
theorem claim : Cert.Claim := ⟨Cert.Kernel.Gen.facts, Cert.KernelIdeal.Gen.facts, Cert.ReferenceIdeal.Gen.facts,
  quiescent_k, quiescent_ki, quiescent_ri, trivial, algebraic⟩

end Cert.Proof

end
